-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x4096 : Shape := ⟨3, ![16, 128, 4096]⟩
abbrev S128x128x3 : Shape := ⟨3, ![128, 128, 3]⟩
abbrev S128 : Shape := ⟨1, ![128]⟩
abbrev S6x128x1 : Shape := ⟨3, ![6, 128, 1]⟩
abbrev S6 : Shape := ⟨1, ![6]⟩
abbrev S12x128x1 : Shape := ⟨3, ![12, 128, 1]⟩
abbrev S12 : Shape := ⟨1, ![12]⟩
abbrev S2 : Shape := ⟨1, ![2]⟩
abbrev S128x3x128 : Shape := ⟨3, ![128, 3, 128]⟩
abbrev S128x384 : Shape := ⟨2, ![128, 384]⟩
abbrev S128x1 : Shape := ⟨2, ![128, 1]⟩
abbrev S6x128 : Shape := ⟨2, ![6, 128]⟩
abbrev S6x1 : Shape := ⟨2, ![6, 1]⟩
abbrev S_ : Shape := ⟨0, ![]⟩
abbrev S12x128 : Shape := ⟨2, ![12, 128]⟩
abbrev S12x1 : Shape := ⟨2, ![12, 1]⟩
abbrev S6x2 : Shape := ⟨2, ![6, 2]⟩
abbrev S1x2 : Shape := ⟨2, ![1, 2]⟩
abbrev S768 : Shape := ⟨1, ![768]⟩
abbrev S1x768 : Shape := ⟨2, ![1, 768]⟩
abbrev S2x1 : Shape := ⟨2, ![2, 1]⟩
abbrev S2x768 : Shape := ⟨2, ![2, 768]⟩
abbrev S2x768x1 : Shape := ⟨3, ![2, 768, 1]⟩
abbrev S2x1x768 : Shape := ⟨3, ![2, 1, 768]⟩
abbrev S1x1x768 : Shape := ⟨3, ![1, 1, 768]⟩
abbrev S1x128x1 : Shape := ⟨3, ![1, 128, 1]⟩
abbrev S6x1x1 : Shape := ⟨3, ![6, 1, 1]⟩
abbrev S6x128x768 : Shape := ⟨3, ![6, 128, 768]⟩
abbrev S2x8x24576 : Shape := ⟨3, ![2, 8, 24576]⟩
abbrev S16x2x32x768 : Shape := ⟨4, ![16, 2, 32, 768]⟩
abbrev S2x32x768 : Shape := ⟨3, ![2, 32, 768]⟩
abbrev S16x24576 : Shape := ⟨2, ![16, 24576]⟩
abbrev S16x2x24576 : Shape := ⟨3, ![16, 2, 24576]⟩
abbrev S16x24576x2 : Shape := ⟨3, ![16, 24576, 2]⟩
abbrev S2x24576 : Shape := ⟨2, ![2, 24576]⟩
abbrev S24576x2 : Shape := ⟨2, ![24576, 2]⟩
abbrev S2x128x4096 : Shape := ⟨3, ![2, 128, 4096]⟩
abbrev S1x8x24576 : Shape := ⟨3, ![1, 8, 24576]⟩
abbrev S2x2x32x768 : Shape := ⟨4, ![2, 2, 32, 768]⟩
abbrev S1x128x4096 : Shape := ⟨3, ![1, 128, 4096]⟩
abbrev S128x4096 : Shape := ⟨2, ![128, 4096]⟩
abbrev S128x4095 : Shape := ⟨2, ![128, 4095]⟩
abbrev S384x4096 : Shape := ⟨2, ![384, 4096]⟩
abbrev S6x4096 : Shape := ⟨2, ![6, 4096]⟩
abbrev S12x4096 : Shape := ⟨2, ![12, 4096]⟩
abbrev S6x32x128 : Shape := ⟨3, ![6, 32, 128]⟩
abbrev S1x32x128 : Shape := ⟨3, ![1, 32, 128]⟩
abbrev S32x128 : Shape := ⟨2, ![32, 128]⟩
abbrev S1x128x768 : Shape := ⟨3, ![1, 128, 768]⟩
abbrev S128x768 : Shape := ⟨2, ![128, 768]⟩
abbrev S32x768 : Shape := ⟨2, ![32, 768]⟩
abbrev S1x1x32x768 : Shape := ⟨4, ![1, 1, 32, 768]⟩
abbrev S1x32x768 : Shape := ⟨3, ![1, 32, 768]⟩

abbrev nBuf : Space → Nat
  | .hbm => 121
  | .vmem => 15
  | .smem => 0
  | _ => 0

abbrev bufTy : (tb : Table) → Fin (tcTables nBuf tb) → BufTy
  | .hbm, ⟨0, _⟩ => ⟨S16x128x4096, .f32⟩
  | .hbm, ⟨1, _⟩ => ⟨S128x128x3, .f32⟩
  | .hbm, ⟨2, _⟩ => ⟨S128, .f32⟩
  | .hbm, ⟨3, _⟩ => ⟨S6x128x1, .f32⟩
  | .hbm, ⟨4, _⟩ => ⟨S6, .f32⟩
  | .hbm, ⟨5, _⟩ => ⟨S12x128x1, .f32⟩
  | .hbm, ⟨6, _⟩ => ⟨S12, .f32⟩
  | .hbm, ⟨7, _⟩ => ⟨S6, .f32⟩
  | .hbm, ⟨8, _⟩ => ⟨S2, .f32⟩
  | .hbm, ⟨9, _⟩ => ⟨S128x3x128, .f32⟩
  | .hbm, ⟨10, _⟩ => ⟨S128x384, .f32⟩
  | .hbm, ⟨11, _⟩ => ⟨S128x1, .f32⟩
  | .hbm, ⟨12, _⟩ => ⟨S6x128, .f32⟩
  | .hbm, ⟨13, _⟩ => ⟨S6x1, .f32⟩
  | .hbm, ⟨14, _⟩ => ⟨S6, .i32⟩
  | .hbm, ⟨15, _⟩ => ⟨S_, .i32⟩
  | .hbm, ⟨16, _⟩ => ⟨S6, .i32⟩
  | .hbm, ⟨17, _⟩ => ⟨S6, .i32⟩
  | .hbm, ⟨18, _⟩ => ⟨S_, .i32⟩
  | .hbm, ⟨19, _⟩ => ⟨S6, .i32⟩
  | .hbm, ⟨20, _⟩ => ⟨S6, .i32⟩
  | .hbm, ⟨21, _⟩ => ⟨S6, .i32⟩
  | .hbm, ⟨22, _⟩ => ⟨S_, .i32⟩
  | .hbm, ⟨23, _⟩ => ⟨S6, .i32⟩
  | .hbm, ⟨24, _⟩ => ⟨S6, .i32⟩
  | .hbm, ⟨25, _⟩ => ⟨S_, .i32⟩
  | .hbm, ⟨26, _⟩ => ⟨S6, .i32⟩
  | .hbm, ⟨27, _⟩ => ⟨S6, .i32⟩
  | .hbm, ⟨28, _⟩ => ⟨S12, .i32⟩
  | .hbm, ⟨29, _⟩ => ⟨S12x128, .f32⟩
  | .hbm, ⟨30, _⟩ => ⟨S_, .i32⟩
  | .hbm, ⟨31, _⟩ => ⟨S12, .i32⟩
  | .hbm, ⟨32, _⟩ => ⟨S12, .i1⟩
  | .hbm, ⟨33, _⟩ => ⟨S_, .i32⟩
  | .hbm, ⟨34, _⟩ => ⟨S12, .i32⟩
  | .hbm, ⟨35, _⟩ => ⟨S12, .i32⟩
  | .hbm, ⟨36, _⟩ => ⟨S12, .i32⟩
  | .hbm, ⟨37, _⟩ => ⟨S12x1, .i32⟩
  | .hbm, ⟨38, _⟩ => ⟨S12x128, .f32⟩
  | .hbm, ⟨39, _⟩ => ⟨S_, .i32⟩
  | .hbm, ⟨40, _⟩ => ⟨S12, .i32⟩
  | .hbm, ⟨41, _⟩ => ⟨S12, .i1⟩
  | .hbm, ⟨42, _⟩ => ⟨S_, .i32⟩
  | .hbm, ⟨43, _⟩ => ⟨S12, .i32⟩
  | .hbm, ⟨44, _⟩ => ⟨S12, .i32⟩
  | .hbm, ⟨45, _⟩ => ⟨S12, .i32⟩
  | .hbm, ⟨46, _⟩ => ⟨S12x1, .i32⟩
  | .hbm, ⟨47, _⟩ => ⟨S12, .f32⟩
  | .hbm, ⟨48, _⟩ => ⟨S12x1, .f32⟩
  | .hbm, ⟨49, _⟩ => ⟨S6x2, .f32⟩
  | .hbm, ⟨50, _⟩ => ⟨S12, .f32⟩
  | .hbm, ⟨51, _⟩ => ⟨S1x2, .f32⟩
  | .hbm, ⟨52, _⟩ => ⟨S6x2, .f32⟩
  | .hbm, ⟨53, _⟩ => ⟨S12, .f32⟩
  | .hbm, ⟨54, _⟩ => ⟨S12, .f32⟩
  | .hbm, ⟨55, _⟩ => ⟨S768, .i32⟩
  | .hbm, ⟨56, _⟩ => ⟨S_, .i32⟩
  | .hbm, ⟨57, _⟩ => ⟨S_, .i32⟩
  | .hbm, ⟨58, _⟩ => ⟨S_, .i32⟩
  | .hbm, ⟨59, _⟩ => ⟨S_, .i1⟩
  | .hbm, ⟨60, _⟩ => ⟨S_, .i32⟩
  | .hbm, ⟨61, _⟩ => ⟨S_, .i32⟩
  | .hbm, ⟨62, _⟩ => ⟨S768, .i32⟩
  | .hbm, ⟨63, _⟩ => ⟨S768, .i32⟩
  | .hbm, ⟨64, _⟩ => ⟨S_, .i32⟩
  | .hbm, ⟨65, _⟩ => ⟨S768, .i32⟩
  | .hbm, ⟨66, _⟩ => ⟨S768, .i1⟩
  | .hbm, ⟨67, _⟩ => ⟨S_, .i32⟩
  | .hbm, ⟨68, _⟩ => ⟨S768, .i32⟩
  | .hbm, ⟨69, _⟩ => ⟨S768, .i1⟩
  | .hbm, ⟨70, _⟩ => ⟨S_, .i32⟩
  | .hbm, ⟨71, _⟩ => ⟨S_, .i1⟩
  | .hbm, ⟨72, _⟩ => ⟨S768, .i1⟩
  | .hbm, ⟨73, _⟩ => ⟨S768, .i1⟩
  | .hbm, ⟨74, _⟩ => ⟨S768, .i1⟩
  | .hbm, ⟨75, _⟩ => ⟨S768, .i32⟩
  | .hbm, ⟨76, _⟩ => ⟨S768, .i32⟩
  | .hbm, ⟨77, _⟩ => ⟨S768, .i32⟩
  | .hbm, ⟨78, _⟩ => ⟨S1x768, .i32⟩
  | .hbm, ⟨79, _⟩ => ⟨S_, .i32⟩
  | .hbm, ⟨80, _⟩ => ⟨S1x768, .i32⟩
  | .hbm, ⟨81, _⟩ => ⟨S1x768, .i32⟩
  | .hbm, ⟨82, _⟩ => ⟨S2, .i32⟩
  | .hbm, ⟨83, _⟩ => ⟨S2x1, .i32⟩
  | .hbm, ⟨84, _⟩ => ⟨S2x768, .i32⟩
  | .hbm, ⟨85, _⟩ => ⟨S2x768, .i32⟩
  | .hbm, ⟨86, _⟩ => ⟨S2x768, .i32⟩
  | .hbm, ⟨87, _⟩ => ⟨S_, .i32⟩
  | .hbm, ⟨88, _⟩ => ⟨S2x768, .i32⟩
  | .hbm, ⟨89, _⟩ => ⟨S2x768, .i1⟩
  | .hbm, ⟨90, _⟩ => ⟨S_, .i32⟩
  | .hbm, ⟨91, _⟩ => ⟨S2x768, .i32⟩
  | .hbm, ⟨92, _⟩ => ⟨S2x768, .i32⟩
  | .hbm, ⟨93, _⟩ => ⟨S2x768, .i32⟩
  | .hbm, ⟨94, _⟩ => ⟨S2x768x1, .i32⟩
  | .hbm, ⟨95, _⟩ => ⟨S2x768, .f32⟩
  | .hbm, ⟨96, _⟩ => ⟨S2x1x768, .f32⟩
  | .hbm, ⟨97, _⟩ => ⟨S128, .i32⟩
  | .hbm, ⟨98, _⟩ => ⟨S768, .i32⟩
  | .hbm, ⟨99, _⟩ => ⟨S6, .i32⟩
  | .hbm, ⟨100, _⟩ => ⟨S1x1x768, .i32⟩
  | .hbm, ⟨101, _⟩ => ⟨S1x128x1, .i32⟩
  | .hbm, ⟨102, _⟩ => ⟨S_, .i32⟩
  | .hbm, ⟨103, _⟩ => ⟨S1x128x1, .i32⟩
  | .hbm, ⟨104, _⟩ => ⟨S1x128x1, .i32⟩
  | .hbm, ⟨105, _⟩ => ⟨S6x1x1, .i32⟩
  | .hbm, ⟨106, _⟩ => ⟨S6x128x1, .i32⟩
  | .hbm, ⟨107, _⟩ => ⟨S6x128x1, .i32⟩
  | .hbm, ⟨108, _⟩ => ⟨S6x128x1, .i32⟩
  | .hbm, ⟨109, _⟩ => ⟨S6x128x768, .i32⟩
  | .hbm, ⟨110, _⟩ => ⟨S6x128x768, .i32⟩
  | .hbm, ⟨111, _⟩ => ⟨S6x128x768, .i1⟩
  | .hbm, ⟨112, _⟩ => ⟨S6x128x768, .bf16⟩
  | .hbm, ⟨113, _⟩ => ⟨S2x8x24576, .f32⟩
  | .hbm, ⟨114, _⟩ => ⟨S16x2x32x768, .f32⟩
  | .hbm, ⟨115, _⟩ => ⟨S2x32x768, .f32⟩
  | .hbm, ⟨116, _⟩ => ⟨S16x24576, .f32⟩
  | .hbm, ⟨117, _⟩ => ⟨S16x2x24576, .f32⟩
  | .hbm, ⟨118, _⟩ => ⟨S16x24576x2, .f32⟩
  | .hbm, ⟨119, _⟩ => ⟨S2x24576, .f32⟩
  | .hbm, ⟨120, _⟩ => ⟨S24576x2, .f32⟩
  | .local _ .vmem, ⟨0, _⟩ => ⟨S2x128x4096, .f32⟩
  | .local _ .vmem, ⟨1, _⟩ => ⟨S2x128x4096, .f32⟩
  | .local _ .vmem, ⟨2, _⟩ => ⟨S128x384, .f32⟩
  | .local _ .vmem, ⟨3, _⟩ => ⟨S128x1, .f32⟩
  | .local _ .vmem, ⟨4, _⟩ => ⟨S6x128, .f32⟩
  | .local _ .vmem, ⟨5, _⟩ => ⟨S6x1, .f32⟩
  | .local _ .vmem, ⟨6, _⟩ => ⟨S12x128, .f32⟩
  | .local _ .vmem, ⟨7, _⟩ => ⟨S12x1, .f32⟩
  | .local _ .vmem, ⟨8, _⟩ => ⟨S2x1x768, .f32⟩
  | .local _ .vmem, ⟨9, _⟩ => ⟨S6x128x768, .bf16⟩
  | .local _ .vmem, ⟨10, _⟩ => ⟨S1x8x24576, .f32⟩
  | .local _ .vmem, ⟨11, _⟩ => ⟨S1x8x24576, .f32⟩
  | .local _ .vmem, ⟨12, _⟩ => ⟨S2x2x32x768, .f32⟩
  | .local _ .vmem, ⟨13, _⟩ => ⟨S2x2x32x768, .f32⟩
  | .local _ .vmem, ⟨14, _⟩ => ⟨S2x32x768, .f32⟩
  | _, _ => ⟨S16x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_cst : Ref sig .tc := ⟨.hbm, 7, rfl⟩
abbrev main_call0_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_1 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_c_2 : Ref sig .tc := ⟨.hbm, 22, rfl⟩
abbrev main_call0_v11 : Ref sig .tc := ⟨.hbm, 23, rfl⟩
abbrev main_call0_v12 : Ref sig .tc := ⟨.hbm, 24, rfl⟩
abbrev main_call0_c_3 : Ref sig .tc := ⟨.hbm, 25, rfl⟩
abbrev main_call0_v13 : Ref sig .tc := ⟨.hbm, 26, rfl⟩
abbrev main_call0_v14 : Ref sig .tc := ⟨.hbm, 27, rfl⟩
abbrev main_call0_v15 : Ref sig .tc := ⟨.hbm, 28, rfl⟩
abbrev main_call0_v16 : Ref sig .tc := ⟨.hbm, 29, rfl⟩
abbrev main_call0_c_4 : Ref sig .tc := ⟨.hbm, 30, rfl⟩
abbrev main_call0_v17 : Ref sig .tc := ⟨.hbm, 31, rfl⟩
abbrev main_call0_v18 : Ref sig .tc := ⟨.hbm, 32, rfl⟩
abbrev main_call0_c_5 : Ref sig .tc := ⟨.hbm, 33, rfl⟩
abbrev main_call0_v19 : Ref sig .tc := ⟨.hbm, 34, rfl⟩
abbrev main_call0_v20 : Ref sig .tc := ⟨.hbm, 35, rfl⟩
abbrev main_call0_v21 : Ref sig .tc := ⟨.hbm, 36, rfl⟩
abbrev main_call0_v22 : Ref sig .tc := ⟨.hbm, 37, rfl⟩
abbrev main_call0_v23 : Ref sig .tc := ⟨.hbm, 38, rfl⟩
abbrev main_call0_c_6 : Ref sig .tc := ⟨.hbm, 39, rfl⟩
abbrev main_call0_v24 : Ref sig .tc := ⟨.hbm, 40, rfl⟩
abbrev main_call0_v25 : Ref sig .tc := ⟨.hbm, 41, rfl⟩
abbrev main_call0_c_7 : Ref sig .tc := ⟨.hbm, 42, rfl⟩
abbrev main_call0_v26 : Ref sig .tc := ⟨.hbm, 43, rfl⟩
abbrev main_call0_v27 : Ref sig .tc := ⟨.hbm, 44, rfl⟩
abbrev main_call0_v28 : Ref sig .tc := ⟨.hbm, 45, rfl⟩
abbrev main_call0_v29 : Ref sig .tc := ⟨.hbm, 46, rfl⟩
abbrev main_call0_v30 : Ref sig .tc := ⟨.hbm, 47, rfl⟩
abbrev main_call0_v31 : Ref sig .tc := ⟨.hbm, 48, rfl⟩
abbrev main_call0_v32 : Ref sig .tc := ⟨.hbm, 49, rfl⟩
abbrev main_call0_v33 : Ref sig .tc := ⟨.hbm, 50, rfl⟩
abbrev main_call0_v34 : Ref sig .tc := ⟨.hbm, 51, rfl⟩
abbrev main_call0_v35 : Ref sig .tc := ⟨.hbm, 52, rfl⟩
abbrev main_call0_v36 : Ref sig .tc := ⟨.hbm, 53, rfl⟩
abbrev main_call0_v37 : Ref sig .tc := ⟨.hbm, 54, rfl⟩
abbrev main_call0_v38 : Ref sig .tc := ⟨.hbm, 55, rfl⟩
abbrev main_call0_c_8 : Ref sig .tc := ⟨.hbm, 56, rfl⟩
abbrev main_call0_call0_v0 : Ref sig .tc := ⟨.hbm, 57, rfl⟩
abbrev main_call0_call0_c : Ref sig .tc := ⟨.hbm, 58, rfl⟩
abbrev main_call0_call0_v1 : Ref sig .tc := ⟨.hbm, 59, rfl⟩
abbrev main_call0_call0_c_0 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_c_1 : Ref sig .tc := ⟨.hbm, 64, rfl⟩
abbrev main_call0_call0_v5 : Ref sig .tc := ⟨.hbm, 65, rfl⟩
abbrev main_call0_call0_v6 : Ref sig .tc := ⟨.hbm, 66, rfl⟩
abbrev main_call0_call0_c_2 : Ref sig .tc := ⟨.hbm, 67, rfl⟩
abbrev main_call0_call0_v7 : Ref sig .tc := ⟨.hbm, 68, rfl⟩
abbrev main_call0_call0_v8 : Ref sig .tc := ⟨.hbm, 69, rfl⟩
abbrev main_call0_call0_c_3 : Ref sig .tc := ⟨.hbm, 70, rfl⟩
abbrev main_call0_call0_v9 : Ref sig .tc := ⟨.hbm, 71, rfl⟩
abbrev main_call0_call0_v10 : Ref sig .tc := ⟨.hbm, 72, rfl⟩
abbrev main_call0_call0_v11 : Ref sig .tc := ⟨.hbm, 73, rfl⟩
abbrev main_call0_call0_v12 : Ref sig .tc := ⟨.hbm, 74, rfl⟩
abbrev main_call0_call0_v13 : Ref sig .tc := ⟨.hbm, 75, rfl⟩
abbrev main_call0_call0_v14 : Ref sig .tc := ⟨.hbm, 76, rfl⟩
abbrev main_call0_v39 : Ref sig .tc := ⟨.hbm, 77, rfl⟩
abbrev main_call0_v40 : Ref sig .tc := ⟨.hbm, 78, rfl⟩
abbrev main_call0_c_9 : Ref sig .tc := ⟨.hbm, 79, rfl⟩
abbrev main_call0_v41 : Ref sig .tc := ⟨.hbm, 80, rfl⟩
abbrev main_call0_v42 : Ref sig .tc := ⟨.hbm, 81, rfl⟩
abbrev main_call0_v43 : Ref sig .tc := ⟨.hbm, 82, rfl⟩
abbrev main_call0_v44 : Ref sig .tc := ⟨.hbm, 83, rfl⟩
abbrev main_call0_v45 : Ref sig .tc := ⟨.hbm, 84, rfl⟩
abbrev main_call0_v46 : Ref sig .tc := ⟨.hbm, 85, rfl⟩
abbrev main_call0_v47 : Ref sig .tc := ⟨.hbm, 86, rfl⟩
abbrev main_call0_c_10 : Ref sig .tc := ⟨.hbm, 87, rfl⟩
abbrev main_call0_v48 : Ref sig .tc := ⟨.hbm, 88, rfl⟩
abbrev main_call0_v49 : Ref sig .tc := ⟨.hbm, 89, rfl⟩
abbrev main_call0_c_11 : Ref sig .tc := ⟨.hbm, 90, rfl⟩
abbrev main_call0_v50 : Ref sig .tc := ⟨.hbm, 91, rfl⟩
abbrev main_call0_v51 : Ref sig .tc := ⟨.hbm, 92, rfl⟩
abbrev main_call0_v52 : Ref sig .tc := ⟨.hbm, 93, rfl⟩
abbrev main_call0_v53 : Ref sig .tc := ⟨.hbm, 94, rfl⟩
abbrev main_call0_v54 : Ref sig .tc := ⟨.hbm, 95, rfl⟩
abbrev main_call0_v55 : Ref sig .tc := ⟨.hbm, 96, rfl⟩
abbrev main_call0_v56 : Ref sig .tc := ⟨.hbm, 97, rfl⟩
abbrev main_call0_v57 : Ref sig .tc := ⟨.hbm, 98, rfl⟩
abbrev main_call0_v58 : Ref sig .tc := ⟨.hbm, 99, rfl⟩
abbrev main_call0_v59 : Ref sig .tc := ⟨.hbm, 100, rfl⟩
abbrev main_call0_v60 : Ref sig .tc := ⟨.hbm, 101, rfl⟩
abbrev main_call0_c_12 : Ref sig .tc := ⟨.hbm, 102, rfl⟩
abbrev main_call0_v61 : Ref sig .tc := ⟨.hbm, 103, rfl⟩
abbrev main_call0_v62 : Ref sig .tc := ⟨.hbm, 104, rfl⟩
abbrev main_call0_v63 : Ref sig .tc := ⟨.hbm, 105, rfl⟩
abbrev main_call0_v64 : Ref sig .tc := ⟨.hbm, 106, rfl⟩
abbrev main_call0_v65 : Ref sig .tc := ⟨.hbm, 107, rfl⟩
abbrev main_call0_v66 : Ref sig .tc := ⟨.hbm, 108, rfl⟩
abbrev main_call0_v67 : Ref sig .tc := ⟨.hbm, 109, rfl⟩
abbrev main_call0_v68 : Ref sig .tc := ⟨.hbm, 110, rfl⟩
abbrev main_call0_v69 : Ref sig .tc := ⟨.hbm, 111, rfl⟩
abbrev main_call0_v70 : Ref sig .tc := ⟨.hbm, 112, rfl⟩
abbrev main_call0_v71_0 : Ref sig .tc := ⟨.hbm, 113, rfl⟩
abbrev main_call0_v71_1 : Ref sig .tc := ⟨.hbm, 114, rfl⟩
abbrev main_call0_v71_2 : Ref sig .tc := ⟨.hbm, 115, rfl⟩
abbrev main_v0_0 : Ref sig .tc := ⟨.hbm, 116, rfl⟩
abbrev main_call0_v73 : Ref sig .tc := ⟨.hbm, 117, rfl⟩
abbrev main_v0_1 : Ref sig .tc := ⟨.hbm, 118, rfl⟩
abbrev main_call0_v75 : Ref sig .tc := ⟨.hbm, 119, rfl⟩
abbrev main_v0_2 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14

abbrev nD : Nat := 1
abbrev τ : Topo := Topo.v7x

variable {F : FTy → Type} [FloatOps F]

abbrev grid0 : Pipeline.Grid := ⟨1, ![8], ![false]⟩

def k0_off1 (i : grid0.Coords) (c0_i32_38 : BitVec 32) : Fin 3 → Nat :=
  let c0_39 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v82 : Index := Scalar.indexCast v80
  let c0_40 : Index := 0#32
  ![0, v82.toNat, 0]
def k0_off2 (i : grid0.Coords) (c0_i32_38 : BitVec 32) : Fin 3 → Nat :=
  let c0_41 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v87 : Index := Scalar.indexCast v80
  let c768 : Index := 768#32
  ![0, v87.toNat, 768]
def k0_off3 (i : grid0.Coords) (c0_i32_38 : BitVec 32) : Fin 3 → Nat :=
  let c0_42 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v92 : Index := Scalar.indexCast v80
  let c1536 : Index := 1536#32
  ![0, v92.toNat, 1536]
def k0_off4 (i : grid0.Coords) (c0_i32_38 : BitVec 32) : Fin 3 → Nat :=
  let c0_43 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v97 : Index := Scalar.indexCast v80
  let c2304 : Index := 2304#32
  ![0, v97.toNat, 2304]
def k0_off5 (i : grid0.Coords) (c0_i32_38 : BitVec 32) : Fin 3 → Nat :=
  let c0_44 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v102 : Index := Scalar.indexCast v80
  let c3072 : Index := 3072#32
  ![0, v102.toNat, 3072]
def k0_off6 (i : grid0.Coords) (c0_i32_38 : BitVec 32) : Fin 3 → Nat :=
  let c0_45 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v107 : Index := Scalar.indexCast v80
  let c3840 : Index := 3840#32
  ![0, v107.toNat, 3840]
def k0_off7 (i : grid0.Coords) (c0_i32_38 : BitVec 32) : Fin 3 → Nat :=
  let c0_46 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v112 : Index := Scalar.indexCast v80
  let c4608 : Index := 4608#32
  ![0, v112.toNat, 4608]
def k0_off8 (i : grid0.Coords) (c0_i32_38 : BitVec 32) : Fin 3 → Nat :=
  let c0_47 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v117 : Index := Scalar.indexCast v80
  let c5376 : Index := 5376#32
  ![0, v117.toNat, 5376]
def k0_off9 (i : grid0.Coords) (c0_i32_38 : BitVec 32) : Fin 3 → Nat :=
  let c0_48 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v122 : Index := Scalar.indexCast v80
  let c6144 : Index := 6144#32
  ![0, v122.toNat, 6144]
def k0_off10 (i : grid0.Coords) (c0_i32_38 : BitVec 32) : Fin 3 → Nat :=
  let c0_49 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v127 : Index := Scalar.indexCast v80
  let c6912 : Index := 6912#32
  ![0, v127.toNat, 6912]
def k0_off11 (i : grid0.Coords) (c0_i32_38 : BitVec 32) : Fin 3 → Nat :=
  let c0_50 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v132 : Index := Scalar.indexCast v80
  let c7680 : Index := 7680#32
  ![0, v132.toNat, 7680]
def k0_off12 (i : grid0.Coords) (c0_i32_38 : BitVec 32) : Fin 3 → Nat :=
  let c0_51 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v137 : Index := Scalar.indexCast v80
  let c8448 : Index := 8448#32
  ![0, v137.toNat, 8448]
def k0_off13 (i : grid0.Coords) (c0_i32_38 : BitVec 32) : Fin 3 → Nat :=
  let c0_52 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v142 : Index := Scalar.indexCast v80
  let c9216 : Index := 9216#32
  ![0, v142.toNat, 9216]
def k0_off14 (i : grid0.Coords) (c0_i32_38 : BitVec 32) : Fin 3 → Nat :=
  let c0_53 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v147 : Index := Scalar.indexCast v80
  let c9984 : Index := 9984#32
  ![0, v147.toNat, 9984]
def k0_off15 (i : grid0.Coords) (c0_i32_38 : BitVec 32) : Fin 3 → Nat :=
  let c0_54 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v152 : Index := Scalar.indexCast v80
  let c10752 : Index := 10752#32
  ![0, v152.toNat, 10752]
def k0_off16 (i : grid0.Coords) (c0_i32_38 : BitVec 32) : Fin 3 → Nat :=
  let c0_55 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v157 : Index := Scalar.indexCast v80
  let c11520 : Index := 11520#32
  ![0, v157.toNat, 11520]
def k0_off17 (i : grid0.Coords) (c0_i32_38 : BitVec 32) : Fin 3 → Nat :=
  let c0_56 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v162 : Index := Scalar.indexCast v80
  let c12288 : Index := 12288#32
  ![0, v162.toNat, 12288]
def k0_off18 (i : grid0.Coords) (c0_i32_38 : BitVec 32) : Fin 3 → Nat :=
  let c0_57 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v167 : Index := Scalar.indexCast v80
  let c13056 : Index := 13056#32
  ![0, v167.toNat, 13056]
def k0_off19 (i : grid0.Coords) (c0_i32_38 : BitVec 32) : Fin 3 → Nat :=
  let c0_58 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v172 : Index := Scalar.indexCast v80
  let c13824 : Index := 13824#32
  ![0, v172.toNat, 13824]
def k0_off20 (i : grid0.Coords) (c0_i32_38 : BitVec 32) : Fin 3 → Nat :=
  let c0_59 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v177 : Index := Scalar.indexCast v80
  let c14592 : Index := 14592#32
  ![0, v177.toNat, 14592]
def k0_off21 (i : grid0.Coords) (c0_i32_38 : BitVec 32) : Fin 3 → Nat :=
  let c0_60 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v182 : Index := Scalar.indexCast v80
  let c15360 : Index := 15360#32
  ![0, v182.toNat, 15360]
def k0_off22 (i : grid0.Coords) (c0_i32_38 : BitVec 32) : Fin 3 → Nat :=
  let c0_61 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v187 : Index := Scalar.indexCast v80
  let c16128 : Index := 16128#32
  ![0, v187.toNat, 16128]
def k0_off23 (i : grid0.Coords) (c0_i32_38 : BitVec 32) : Fin 3 → Nat :=
  let c0_62 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v192 : Index := Scalar.indexCast v80
  let c16896 : Index := 16896#32
  ![0, v192.toNat, 16896]
def k0_off24 (i : grid0.Coords) (c0_i32_38 : BitVec 32) : Fin 3 → Nat :=
  let c0_63 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v197 : Index := Scalar.indexCast v80
  let c17664 : Index := 17664#32
  ![0, v197.toNat, 17664]
def k0_off25 (i : grid0.Coords) (c0_i32_38 : BitVec 32) : Fin 3 → Nat :=
  let c0_64 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v202 : Index := Scalar.indexCast v80
  let c18432 : Index := 18432#32
  ![0, v202.toNat, 18432]
def k0_off26 (i : grid0.Coords) (c0_i32_38 : BitVec 32) : Fin 3 → Nat :=
  let c0_65 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v207 : Index := Scalar.indexCast v80
  let c19200 : Index := 19200#32
  ![0, v207.toNat, 19200]
def k0_off27 (i : grid0.Coords) (c0_i32_38 : BitVec 32) : Fin 3 → Nat :=
  let c0_66 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v212 : Index := Scalar.indexCast v80
  let c19968 : Index := 19968#32
  ![0, v212.toNat, 19968]
def k0_off28 (i : grid0.Coords) (c0_i32_38 : BitVec 32) : Fin 3 → Nat :=
  let c0_67 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v217 : Index := Scalar.indexCast v80
  let c20736 : Index := 20736#32
  ![0, v217.toNat, 20736]
def k0_off29 (i : grid0.Coords) (c0_i32_38 : BitVec 32) : Fin 3 → Nat :=
  let c0_68 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v222 : Index := Scalar.indexCast v80
  let c21504 : Index := 21504#32
  ![0, v222.toNat, 21504]
def k0_off30 (i : grid0.Coords) (c0_i32_38 : BitVec 32) : Fin 3 → Nat :=
  let c0_69 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v227 : Index := Scalar.indexCast v80
  let c22272 : Index := 22272#32
  ![0, v227.toNat, 22272]
def k0_off31 (i : grid0.Coords) (c0_i32_38 : BitVec 32) : Fin 3 → Nat :=
  let c0_70 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v232 : Index := Scalar.indexCast v80
  let c23040 : Index := 23040#32
  ![0, v232.toNat, 23040]
def k0_off32 (i : grid0.Coords) (c0_i32_38 : BitVec 32) : Fin 3 → Nat :=
  let c0_71 : Index := 0#32
  let c2_i32 : BitVec 32 := 2#32
  let arg0 : BitVec 32 := BitVec.ofNat 32 (i 0).val
  let c4_i32 : BitVec 32 := 4#32
  let c0_i32 : BitVec 32 := 0#32
  let v69 : BitVec 1 := Scalar.cmpi .eq c4_i32 c0_i32
  let c1_i32 : BitVec 32 := 1#32
  let v70 : BitVec 32 := Scalar.select v69 c1_i32 c4_i32
  let v71 : BitVec 32 := Scalar.remsi arg0 v70
  let c0_i32_36 : BitVec 32 := 0#32
  let v73 : BitVec 1 := Scalar.cmpi .slt v71 c0_i32_36
  let c0_i32_37 : BitVec 32 := 0#32
  let v74 : BitVec 1 := Scalar.cmpi .slt v70 c0_i32_37
  let v75 : BitVec 1 := Scalar.xori v73 v74
  let c0_i32_35 : BitVec 32 := 0#32
  let v72 : BitVec 1 := Scalar.cmpi .ne v71 c0_i32_35
  let v76 : BitVec 1 := Scalar.andi v75 v72
  let v77 : BitVec 32 := Scalar.addi v71 v70
  let v78 : BitVec 32 := Scalar.select v76 v77 v71
  let v79 : BitVec 32 := Scalar.muli c2_i32 v78
  let v80 : BitVec 32 := Scalar.addi v79 c0_i32_38
  let v237 : Index := Scalar.indexCast v80
  let c23808 : Index := 23808#32
  ![0, v237.toNat, 23808]
def k0_cond1 (i : grid0.Coords) : BitVec 1 :=
  let arg0 : BitVec 32 := BitVec.ofNat 32 (i 0).val
  let c0_i32_302 : BitVec 32 := 0#32
  let v654 : BitVec 1 := Scalar.cmpi .eq arg0 c0_i32_302
  let v655 : BitVec 32 := Scalar.extui v654
  let c0_i32_303 : BitVec 32 := 0#32
  let v656 : BitVec 1 := Scalar.cmpi .ne v655 c0_i32_303
  v656

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S12x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x1x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x128x768 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8x24576 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x2x32x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x32x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S16x128x4096 : Shape := ⟨3, ![16, 128, 4096]⟩
abbrev S128x128x3 : Shape := ⟨3, ![128, 128, 3]⟩
abbrev S128 : Shape := ⟨1, ![128]⟩
abbrev S6x128x1 : Shape := ⟨3, ![6, 128, 1]⟩
abbrev S6 : Shape := ⟨1, ![6]⟩
abbrev S12x128x1 : Shape := ⟨3, ![12, 128, 1]⟩
abbrev S12 : Shape := ⟨1, ![12]⟩
abbrev S_ : Shape := ⟨0, ![]⟩
abbrev S16x128x1 : Shape := ⟨3, ![16, 128, 1]⟩
abbrev S16x128x4098 : Shape := ⟨3, ![16, 128, 4098]⟩
abbrev S128x128x1 : Shape := ⟨3, ![128, 128, 1]⟩
abbrev S128x128 : Shape := ⟨2, ![128, 128]⟩
abbrev S16x4096x128 : Shape := ⟨3, ![16, 4096, 128]⟩
abbrev S1x128x1 : Shape := ⟨3, ![1, 128, 1]⟩
abbrev S6x128 : Shape := ⟨2, ![6, 128]⟩
abbrev S16x4096x6 : Shape := ⟨3, ![16, 4096, 6]⟩
abbrev S1x1x6 : Shape := ⟨3, ![1, 1, 6]⟩
abbrev S12x128 : Shape := ⟨2, ![12, 128]⟩
abbrev S16x4096x12 : Shape := ⟨3, ![16, 4096, 12]⟩
abbrev S1x1x12 : Shape := ⟨3, ![1, 1, 12]⟩
abbrev S4096 : Shape := ⟨1, ![4096]⟩
abbrev S4096x1 : Shape := ⟨2, ![4096, 1]⟩
abbrev S4096x6 : Shape := ⟨2, ![4096, 6]⟩
abbrev S1x6 : Shape := ⟨2, ![1, 6]⟩
abbrev S4096x6x1 : Shape := ⟨3, ![4096, 6, 1]⟩
abbrev S4096x6x2 : Shape := ⟨3, ![4096, 6, 2]⟩
abbrev S24576x2 : Shape := ⟨2, ![24576, 2]⟩
abbrev S16x24576 : Shape := ⟨2, ![16, 24576]⟩
abbrev S16x4096x6x2 : Shape := ⟨4, ![16, 4096, 6, 2]⟩
abbrev S16x24576x2 : Shape := ⟨3, ![16, 24576, 2]⟩

abbrev nBuf : Space → Nat
  | .hbm => 70
  | .vmem => 0
  | .smem => 0
  | _ => 0

abbrev bufTy : (tb : Table) → Fin (tcTables nBuf tb) → BufTy
  | .hbm, ⟨0, _⟩ => ⟨S16x128x4096, .f32⟩
  | .hbm, ⟨1, _⟩ => ⟨S128x128x3, .f32⟩
  | .hbm, ⟨2, _⟩ => ⟨S128, .f32⟩
  | .hbm, ⟨3, _⟩ => ⟨S6x128x1, .f32⟩
  | .hbm, ⟨4, _⟩ => ⟨S6, .f32⟩
  | .hbm, ⟨5, _⟩ => ⟨S12x128x1, .f32⟩
  | .hbm, ⟨6, _⟩ => ⟨S12, .f32⟩
  | .hbm, ⟨7, _⟩ => ⟨S6, .f32⟩
  | .hbm, ⟨8, _⟩ => ⟨S_, .f32⟩
  | .hbm, ⟨9, _⟩ => ⟨S16x128x1, .f32⟩
  | .hbm, ⟨10, _⟩ => ⟨S16x128x4098, .f32⟩
  | .hbm, ⟨11, _⟩ => ⟨S_, .f32⟩
  | .hbm, ⟨12, _⟩ => ⟨S16x128x4096, .f32⟩
  | .hbm, ⟨13, _⟩ => ⟨S128x128x1, .f32⟩
  | .hbm, ⟨14, _⟩ => ⟨S128x128, .f32⟩
  | .hbm, ⟨15, _⟩ => ⟨S16x128x4096, .f32⟩
  | .hbm, ⟨16, _⟩ => ⟨S16x4096x128, .f32⟩
  | .hbm, ⟨17, _⟩ => ⟨S16x128x4096, .f32⟩
  | .hbm, ⟨18, _⟩ => ⟨S16x128x4096, .f32⟩
  | .hbm, ⟨19, _⟩ => ⟨S128x128x1, .f32⟩
  | .hbm, ⟨20, _⟩ => ⟨S128x128, .f32⟩
  | .hbm, ⟨21, _⟩ => ⟨S16x128x4096, .f32⟩
  | .hbm, ⟨22, _⟩ => ⟨S16x4096x128, .f32⟩
  | .hbm, ⟨23, _⟩ => ⟨S16x128x4096, .f32⟩
  | .hbm, ⟨24, _⟩ => ⟨S16x128x4096, .f32⟩
  | .hbm, ⟨25, _⟩ => ⟨S128x128x1, .f32⟩
  | .hbm, ⟨26, _⟩ => ⟨S128x128, .f32⟩
  | .hbm, ⟨27, _⟩ => ⟨S16x128x4096, .f32⟩
  | .hbm, ⟨28, _⟩ => ⟨S16x4096x128, .f32⟩
  | .hbm, ⟨29, _⟩ => ⟨S16x128x4096, .f32⟩
  | .hbm, ⟨30, _⟩ => ⟨S16x128x4096, .f32⟩
  | .hbm, ⟨31, _⟩ => ⟨S1x128x1, .f32⟩
  | .hbm, ⟨32, _⟩ => ⟨S16x128x4096, .f32⟩
  | .hbm, ⟨33, _⟩ => ⟨S16x128x4096, .f32⟩
  | .hbm, ⟨34, _⟩ => ⟨S_, .f32⟩
  | .hbm, ⟨35, _⟩ => ⟨S16x128x4096, .f32⟩
  | .hbm, ⟨36, _⟩ => ⟨S16x128x4096, .f32⟩
  | .hbm, ⟨37, _⟩ => ⟨S6x128, .f32⟩
  | .hbm, ⟨38, _⟩ => ⟨S16x4096x6, .f32⟩
  | .hbm, ⟨39, _⟩ => ⟨S1x1x6, .f32⟩
  | .hbm, ⟨40, _⟩ => ⟨S16x4096x6, .f32⟩
  | .hbm, ⟨41, _⟩ => ⟨S16x4096x6, .f32⟩
  | .hbm, ⟨42, _⟩ => ⟨S12x128, .f32⟩
  | .hbm, ⟨43, _⟩ => ⟨S16x4096x12, .f32⟩
  | .hbm, ⟨44, _⟩ => ⟨S1x1x12, .f32⟩
  | .hbm, ⟨45, _⟩ => ⟨S16x4096x12, .f32⟩
  | .hbm, ⟨46, _⟩ => ⟨S16x4096x12, .f32⟩
  | .hbm, ⟨47, _⟩ => ⟨S4096, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S4096x1, .f32⟩
  | .hbm, ⟨52, _⟩ => ⟨S4096x6, .f32⟩
  | .hbm, ⟨53, _⟩ => ⟨S1x6, .f32⟩
  | .hbm, ⟨54, _⟩ => ⟨S4096x6, .f32⟩
  | .hbm, ⟨55, _⟩ => ⟨S_, .f32⟩
  | .hbm, ⟨56, _⟩ => ⟨S4096x6, .f32⟩
  | .hbm, ⟨57, _⟩ => ⟨S4096x6, .f32⟩
  | .hbm, ⟨58, _⟩ => ⟨S4096x6, .f32⟩
  | .hbm, ⟨59, _⟩ => ⟨S_, .f32⟩
  | .hbm, ⟨60, _⟩ => ⟨S4096x6, .f32⟩
  | .hbm, ⟨61, _⟩ => ⟨S4096x6, .f32⟩
  | .hbm, ⟨62, _⟩ => ⟨S4096x6, .f32⟩
  | .hbm, ⟨63, _⟩ => ⟨S4096x6x1, .f32⟩
  | .hbm, ⟨64, _⟩ => ⟨S4096x6x1, .f32⟩
  | .hbm, ⟨65, _⟩ => ⟨S4096x6x2, .f32⟩
  | .hbm, ⟨66, _⟩ => ⟨S24576x2, .f32⟩
  | .hbm, ⟨67, _⟩ => ⟨S16x24576, .f32⟩
  | .hbm, ⟨68, _⟩ => ⟨S16x4096x6x2, .f32⟩
  | .hbm, ⟨69, _⟩ => ⟨S16x24576x2, .f32⟩
  | _, _ => ⟨S16x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_cst_1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== Proof.Body.lean ====
/-
  Hand-written, untrusted. The kernel body's triple, proved once at symbolic operands: from the twelve operands held whole, the body
  runs to its return; the nine inputs come back as they were; the objectness block comes back with 64 pieces (32 chunks of a row, for two
  rows) written over what it held; the regression block with four pieces written; and the anchor block with two pieces
  written at the first grid point and untouched at every other.
-/
module

public import proofs.«01_k».proof.Proof.Gen.KernelIdeal.Frame
public import proofs.«01_k».proof.Proof.Gen.KernelIdeal.Skeleton
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c` held whole at contents `f`. -/
abbrev pt (c : Dev nD) {sp : Space} {S : Shape} {e : EltTy} (M : Memref sig .tc sp S e) (f : Bf (F := F) c M) : sProp 𝕄 :=
  M.view.loc (c : Thread nD τ) ↦{fullShare} f

/-! ## The rows the objectness stores go to -/

/-- The row of the batch's objectness block that point `i` writes for its batch number `w`, as the kernel computes it. -/
def rowWord (i : grid0.Coords) (w : BitVec 32) : ℕ := k0_off1 i w 1

theorem rowWord_zero : ∀ i : grid0.Coords, rowWord i 0#32 = 2 * ((i 0).val % 4) := by decide +kernel
theorem rowWord_one : ∀ i : grid0.Coords, rowWord i 1#32 = 2 * ((i 0).val % 4) + 1 := by decide +kernel

/-- An offset whose row is the first batch's, in closed form; and one whose row is the second's. -/
theorem off_lo {off : Fin 3 → ℕ} (i : grid0.Coords) (n : ℕ) (h : off = ![0, rowWord i 0#32, n]) :
    off = ![0, 2 * ((i 0).val % 4), n] := by rw [h, rowWord_zero]
theorem off_hi {off : Fin 3 → ℕ} (i : grid0.Coords) (n : ℕ) (h : off = ![0, rowWord i 1#32, n]) :
    off = ![0, 2 * ((i 0).val % 4) + 1, n] := by rw [h, rowWord_one]

instance (i : grid0.Coords) : ClosedOff (k0_off1 i 0#32) := ⟨![0, 2 * ((i 0).val % 4), 0], off_lo i 0 rfl⟩
instance (i : grid0.Coords) : ClosedOff (k0_off1 i 1#32) := ⟨![0, 2 * ((i 0).val % 4) + 1, 0], off_hi i 0 rfl⟩
instance (i : grid0.Coords) : ClosedOff (k0_off2 i 0#32) := ⟨![0, 2 * ((i 0).val % 4), 768], off_lo i 768 rfl⟩
instance (i : grid0.Coords) : ClosedOff (k0_off2 i 1#32) := ⟨![0, 2 * ((i 0).val % 4) + 1, 768], off_hi i 768 rfl⟩
instance (i : grid0.Coords) : ClosedOff (k0_off3 i 0#32) := ⟨![0, 2 * ((i 0).val % 4), 1536], off_lo i 1536 rfl⟩
instance (i : grid0.Coords) : ClosedOff (k0_off3 i 1#32) := ⟨![0, 2 * ((i 0).val % 4) + 1, 1536], off_hi i 1536 rfl⟩
instance (i : grid0.Coords) : ClosedOff (k0_off4 i 0#32) := ⟨![0, 2 * ((i 0).val % 4), 2304], off_lo i 2304 rfl⟩
instance (i : grid0.Coords) : ClosedOff (k0_off4 i 1#32) := ⟨![0, 2 * ((i 0).val % 4) + 1, 2304], off_hi i 2304 rfl⟩
instance (i : grid0.Coords) : ClosedOff (k0_off5 i 0#32) := ⟨![0, 2 * ((i 0).val % 4), 3072], off_lo i 3072 rfl⟩
instance (i : grid0.Coords) : ClosedOff (k0_off5 i 1#32) := ⟨![0, 2 * ((i 0).val % 4) + 1, 3072], off_hi i 3072 rfl⟩
instance (i : grid0.Coords) : ClosedOff (k0_off6 i 0#32) := ⟨![0, 2 * ((i 0).val % 4), 3840], off_lo i 3840 rfl⟩
instance (i : grid0.Coords) : ClosedOff (k0_off6 i 1#32) := ⟨![0, 2 * ((i 0).val % 4) + 1, 3840], off_hi i 3840 rfl⟩
instance (i : grid0.Coords) : ClosedOff (k0_off7 i 0#32) := ⟨![0, 2 * ((i 0).val % 4), 4608], off_lo i 4608 rfl⟩
instance (i : grid0.Coords) : ClosedOff (k0_off7 i 1#32) := ⟨![0, 2 * ((i 0).val % 4) + 1, 4608], off_hi i 4608 rfl⟩
instance (i : grid0.Coords) : ClosedOff (k0_off8 i 0#32) := ⟨![0, 2 * ((i 0).val % 4), 5376], off_lo i 5376 rfl⟩
instance (i : grid0.Coords) : ClosedOff (k0_off8 i 1#32) := ⟨![0, 2 * ((i 0).val % 4) + 1, 5376], off_hi i 5376 rfl⟩
instance (i : grid0.Coords) : ClosedOff (k0_off9 i 0#32) := ⟨![0, 2 * ((i 0).val % 4), 6144], off_lo i 6144 rfl⟩
instance (i : grid0.Coords) : ClosedOff (k0_off9 i 1#32) := ⟨![0, 2 * ((i 0).val % 4) + 1, 6144], off_hi i 6144 rfl⟩
instance (i : grid0.Coords) : ClosedOff (k0_off10 i 0#32) := ⟨![0, 2 * ((i 0).val % 4), 6912], off_lo i 6912 rfl⟩
instance (i : grid0.Coords) : ClosedOff (k0_off10 i 1#32) := ⟨![0, 2 * ((i 0).val % 4) + 1, 6912], off_hi i 6912 rfl⟩
instance (i : grid0.Coords) : ClosedOff (k0_off11 i 0#32) := ⟨![0, 2 * ((i 0).val % 4), 7680], off_lo i 7680 rfl⟩
instance (i : grid0.Coords) : ClosedOff (k0_off11 i 1#32) := ⟨![0, 2 * ((i 0).val % 4) + 1, 7680], off_hi i 7680 rfl⟩
instance (i : grid0.Coords) : ClosedOff (k0_off12 i 0#32) := ⟨![0, 2 * ((i 0).val % 4), 8448], off_lo i 8448 rfl⟩
instance (i : grid0.Coords) : ClosedOff (k0_off12 i 1#32) := ⟨![0, 2 * ((i 0).val % 4) + 1, 8448], off_hi i 8448 rfl⟩
instance (i : grid0.Coords) : ClosedOff (k0_off13 i 0#32) := ⟨![0, 2 * ((i 0).val % 4), 9216], off_lo i 9216 rfl⟩
instance (i : grid0.Coords) : ClosedOff (k0_off13 i 1#32) := ⟨![0, 2 * ((i 0).val % 4) + 1, 9216], off_hi i 9216 rfl⟩
instance (i : grid0.Coords) : ClosedOff (k0_off14 i 0#32) := ⟨![0, 2 * ((i 0).val % 4), 9984], off_lo i 9984 rfl⟩
instance (i : grid0.Coords) : ClosedOff (k0_off14 i 1#32) := ⟨![0, 2 * ((i 0).val % 4) + 1, 9984], off_hi i 9984 rfl⟩
instance (i : grid0.Coords) : ClosedOff (k0_off15 i 0#32) := ⟨![0, 2 * ((i 0).val % 4), 10752], off_lo i 10752 rfl⟩
instance (i : grid0.Coords) : ClosedOff (k0_off15 i 1#32) := ⟨![0, 2 * ((i 0).val % 4) + 1, 10752], off_hi i 10752 rfl⟩
instance (i : grid0.Coords) : ClosedOff (k0_off16 i 0#32) := ⟨![0, 2 * ((i 0).val % 4), 11520], off_lo i 11520 rfl⟩
instance (i : grid0.Coords) : ClosedOff (k0_off16 i 1#32) := ⟨![0, 2 * ((i 0).val % 4) + 1, 11520], off_hi i 11520 rfl⟩
instance (i : grid0.Coords) : ClosedOff (k0_off17 i 0#32) := ⟨![0, 2 * ((i 0).val % 4), 12288], off_lo i 12288 rfl⟩
instance (i : grid0.Coords) : ClosedOff (k0_off17 i 1#32) := ⟨![0, 2 * ((i 0).val % 4) + 1, 12288], off_hi i 12288 rfl⟩
instance (i : grid0.Coords) : ClosedOff (k0_off18 i 0#32) := ⟨![0, 2 * ((i 0).val % 4), 13056], off_lo i 13056 rfl⟩
instance (i : grid0.Coords) : ClosedOff (k0_off18 i 1#32) := ⟨![0, 2 * ((i 0).val % 4) + 1, 13056], off_hi i 13056 rfl⟩
instance (i : grid0.Coords) : ClosedOff (k0_off19 i 0#32) := ⟨![0, 2 * ((i 0).val % 4), 13824], off_lo i 13824 rfl⟩
instance (i : grid0.Coords) : ClosedOff (k0_off19 i 1#32) := ⟨![0, 2 * ((i 0).val % 4) + 1, 13824], off_hi i 13824 rfl⟩
instance (i : grid0.Coords) : ClosedOff (k0_off20 i 0#32) := ⟨![0, 2 * ((i 0).val % 4), 14592], off_lo i 14592 rfl⟩
instance (i : grid0.Coords) : ClosedOff (k0_off20 i 1#32) := ⟨![0, 2 * ((i 0).val % 4) + 1, 14592], off_hi i 14592 rfl⟩
instance (i : grid0.Coords) : ClosedOff (k0_off21 i 0#32) := ⟨![0, 2 * ((i 0).val % 4), 15360], off_lo i 15360 rfl⟩
instance (i : grid0.Coords) : ClosedOff (k0_off21 i 1#32) := ⟨![0, 2 * ((i 0).val % 4) + 1, 15360], off_hi i 15360 rfl⟩
instance (i : grid0.Coords) : ClosedOff (k0_off22 i 0#32) := ⟨![0, 2 * ((i 0).val % 4), 16128], off_lo i 16128 rfl⟩
instance (i : grid0.Coords) : ClosedOff (k0_off22 i 1#32) := ⟨![0, 2 * ((i 0).val % 4) + 1, 16128], off_hi i 16128 rfl⟩
instance (i : grid0.Coords) : ClosedOff (k0_off23 i 0#32) := ⟨![0, 2 * ((i 0).val % 4), 16896], off_lo i 16896 rfl⟩
instance (i : grid0.Coords) : ClosedOff (k0_off23 i 1#32) := ⟨![0, 2 * ((i 0).val % 4) + 1, 16896], off_hi i 16896 rfl⟩
instance (i : grid0.Coords) : ClosedOff (k0_off24 i 0#32) := ⟨![0, 2 * ((i 0).val % 4), 17664], off_lo i 17664 rfl⟩
instance (i : grid0.Coords) : ClosedOff (k0_off24 i 1#32) := ⟨![0, 2 * ((i 0).val % 4) + 1, 17664], off_hi i 17664 rfl⟩
instance (i : grid0.Coords) : ClosedOff (k0_off25 i 0#32) := ⟨![0, 2 * ((i 0).val % 4), 18432], off_lo i 18432 rfl⟩
instance (i : grid0.Coords) : ClosedOff (k0_off25 i 1#32) := ⟨![0, 2 * ((i 0).val % 4) + 1, 18432], off_hi i 18432 rfl⟩
instance (i : grid0.Coords) : ClosedOff (k0_off26 i 0#32) := ⟨![0, 2 * ((i 0).val % 4), 19200], off_lo i 19200 rfl⟩
instance (i : grid0.Coords) : ClosedOff (k0_off26 i 1#32) := ⟨![0, 2 * ((i 0).val % 4) + 1, 19200], off_hi i 19200 rfl⟩
instance (i : grid0.Coords) : ClosedOff (k0_off27 i 0#32) := ⟨![0, 2 * ((i 0).val % 4), 19968], off_lo i 19968 rfl⟩
instance (i : grid0.Coords) : ClosedOff (k0_off27 i 1#32) := ⟨![0, 2 * ((i 0).val % 4) + 1, 19968], off_hi i 19968 rfl⟩
instance (i : grid0.Coords) : ClosedOff (k0_off28 i 0#32) := ⟨![0, 2 * ((i 0).val % 4), 20736], off_lo i 20736 rfl⟩
instance (i : grid0.Coords) : ClosedOff (k0_off28 i 1#32) := ⟨![0, 2 * ((i 0).val % 4) + 1, 20736], off_hi i 20736 rfl⟩
instance (i : grid0.Coords) : ClosedOff (k0_off29 i 0#32) := ⟨![0, 2 * ((i 0).val % 4), 21504], off_lo i 21504 rfl⟩
instance (i : grid0.Coords) : ClosedOff (k0_off29 i 1#32) := ⟨![0, 2 * ((i 0).val % 4) + 1, 21504], off_hi i 21504 rfl⟩
instance (i : grid0.Coords) : ClosedOff (k0_off30 i 0#32) := ⟨![0, 2 * ((i 0).val % 4), 22272], off_lo i 22272 rfl⟩
instance (i : grid0.Coords) : ClosedOff (k0_off30 i 1#32) := ⟨![0, 2 * ((i 0).val % 4) + 1, 22272], off_hi i 22272 rfl⟩
instance (i : grid0.Coords) : ClosedOff (k0_off31 i 0#32) := ⟨![0, 2 * ((i 0).val % 4), 23040], off_lo i 23040 rfl⟩
instance (i : grid0.Coords) : ClosedOff (k0_off31 i 1#32) := ⟨![0, 2 * ((i 0).val % 4) + 1, 23040], off_hi i 23040 rfl⟩
instance (i : grid0.Coords) : ClosedOff (k0_off32 i 0#32) := ⟨![0, 2 * ((i 0).val % 4), 23808], off_lo i 23808 rfl⟩
instance (i : grid0.Coords) : ClosedOff (k0_off32 i 1#32) := ⟨![0, 2 * ((i 0).val % 4) + 1, 23808], off_hi i 23808 rfl⟩

/-! ## The run -/

/-- The two pieces the first grid point writes into the anchor block: the starts and the ends. -/
abbrev anchPieces (x0 x1 : Vec F S1x1x768 .f32) : List (View.Piece (Elt F) S2x32x768 .f32) :=
  [⟨Rect.unit (s := S2x32x768) ![1, 0, 0] S1x32x768.size inb_S2x32x768_S1x32x768_1_0_0, k0_pay2 (k0_pay3 (F := F)) (k0_pay5 x1)⟩,
   ⟨Rect.unit (s := S2x32x768) ![0, 0, 0] S1x32x768.size inb_S2x32x768_S1x32x768_0_0_0, k0_pay4 x0⟩]

set_option sl_exec.stopBefore "k0_cond1" in
/-- The body, run once: the pieces it writes into the objectness and the regression block (found by the run), and the triple. -/
def kernelRun (c : Dev nD) (i : grid0.Coords)
    (arg1 : Memref sig .tc .vmem S2x128x4096 .f32) (harg1 : arg1.IsWhole)
    (arg2 : Memref sig .tc .vmem S128x384 .f32) (harg2 : arg2.IsWhole)
    (arg3 : Memref sig .tc .vmem S128x1 .f32) (harg3 : arg3.IsWhole)
    (arg4 : Memref sig .tc .vmem S6x128 .f32) (harg4 : arg4.IsWhole)
    (arg5 : Memref sig .tc .vmem S6x1 .f32) (harg5 : arg5.IsWhole)
    (arg6 : Memref sig .tc .vmem S12x128 .f32) (harg6 : arg6.IsWhole)
    (arg7 : Memref sig .tc .vmem S12x1 .f32) (harg7 : arg7.IsWhole)
    (arg8 : Memref sig .tc .vmem S2x1x768 .f32) (harg8 : arg8.IsWhole)
    (arg9 : Memref sig .tc .vmem S6x128x768 .bf16) (harg9 : arg9.IsWhole)
    (arg10 : Memref sig .tc .vmem S1x8x24576 .f32) (harg10 : arg10.IsWhole)
    (arg11 : Memref sig .tc .vmem S2x2x32x768 .f32) (harg11 : arg11.IsWhole)
    (arg12 : Memref sig .tc .vmem S2x32x768 .f32) (harg12 : arg12.IsWhole)
    (f1 : Bf (F := F) c arg1) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) :
    { L : List (View.Piece (Elt F) S1x8x24576 .f32) × List (View.Piece (Elt F) S2x2x32x768 .f32) //
      ∀ (f10 : Bf (F := F) c arg10) (f11 : Bf (F := F) c arg11) (f12 : Bf (F := F) c arg12) (Q : PUnit → sProp 𝕄),
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ (iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 (arg10.view.writes (Elt F) f10 L.1) ∗ pt c arg11 (arg11.view.writes (Elt F) f11 L.2)
          ∗ pt c arg12 (if k0_cond1 i = 1#1 then arg12.view.writes (Elt F) f12 (anchPieces
              (View.readAt (Elt F) arg8.view (Rect.unit (s := S2x1x768) ![0, 0, 0] S1x1x768.size inb_S2x1x768_S1x1x768_0_0_0).toLoadRect f8)
              (View.readAt (Elt F) arg8.view (Rect.unit (s := S2x1x768) ![1, 0, 0] S1x1x768.size inb_S2x1x768_S1x1x768_1_0_0).toLoadRect f8)) else f12)) -∗ Q ⟨⟩))
    ⊢ wp frame (wpE (defs₀ (F := F)) Variants.none c none) Set.univ
        (cc0__rpn_kernel i arg1 harg1 arg2 harg2 arg3 harg3 arg4 harg4 arg5 harg5 arg6 harg6 arg7 harg7 arg8 harg8 arg9 harg9 arg10 harg10 arg11 harg11 arg12 harg12) Q } := by
  refine ⟨(?L10, ?L11), fun f10 f11 f12 Q => ?run⟩
  case run =>
    dsimp only
    iintro ⟨H1, H2, H3, H4, H5, H6, H7, H8, H9, H10, H11, H12, Hk⟩
    sl_unfold [cc0__rpn_kernel]
    sl_exec
    by_cases hc : k0_cond1 i = 1#1
    · rw [if_pos hc]
      set_option sl_exec.stopBefore "" in
      sl_exec (disch := sl_exact hc)
      sl_step
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [if_neg hc]
      set_option sl_exec.stopBefore "" in
      sl_exec (disch := sl_exact hc)
      sl_step
      iapply Hk
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12

end Cert.KernelIdeal.Hand

end
-- ==== Proof.Owned.lean ====
/-
  Hand-written, untrusted. The body's triple over operands owned at what they read, and what the body leaves in each output block at a grid
  point: the contents found there with the body's listed pieces written over them. At any value instance.
-/
module

public import proofs.«01_k».proof.Proof.Body
public import Idealize.ShloMosaic.Lib.Pipeline.ArrRel
public import Idealize.ShloMosaic.Lib.Pipeline.DatRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A whole memref owned at what it reads is its buffer held at the contents that read so. -/
theorem owns_whole (c : Dev nD) {sp : Space} {S : Shape} {e : EltTy} (M : Memref sig .tc sp S e) (h : M.IsWhole) (X : S.Idx → Elt F e) :
    (owns (c : Thread nD τ) M fullShare X : sProp 𝕄) ⊢ pt c M (h.unread X) := by
  unfold owns
  iintro ⟨%f, %hf, H⟩
  obtain rfl := h.eq_unread hf
  rw [h.set_eq_univ]
  iexact H

/-- And back: a buffer held at contents `f` owns its memref at what `f` reads. -/
theorem whole_owns (c : Dev nD) {sp : Space} {S : Shape} {e : EltTy} (M : Memref sig .tc sp S e) (h : M.IsWhole) (f : Bf (F := F) c M) :
    (pt c M f : sProp 𝕄) ⊢ owns (c : Thread nD τ) M fullShare (M.view.read (Elt F) f) := by
  unfold owns
  iintro H
  iexists f
  isplitr
  · ipureintro; rfl
  rw [h.set_eq_univ]
  iexact H

/-- The same at contents given by what they read. -/
theorem unread_owns (c : Dev nD) {sp : Space} {S : Shape} {e : EltTy} (M : Memref sig .tc sp S e) (h : M.IsWhole) (X : S.Idx → Elt F e) :
    (pt c M (h.unread X) : sProp 𝕄) ⊢ owns (c : Thread nD τ) M fullShare X := by
  have := whole_owns (F := F) c M h (h.unread X)
  rwa [h.read_unread] at this

section Operands

variable (c : Dev nD) (i : grid0.Coords)
    (arg1 : Memref sig .tc .vmem S2x128x4096 .f32) (harg1 : arg1.IsWhole)
    (arg2 : Memref sig .tc .vmem S128x384 .f32) (harg2 : arg2.IsWhole)
    (arg3 : Memref sig .tc .vmem S128x1 .f32) (harg3 : arg3.IsWhole)
    (arg4 : Memref sig .tc .vmem S6x128 .f32) (harg4 : arg4.IsWhole)
    (arg5 : Memref sig .tc .vmem S6x1 .f32) (harg5 : arg5.IsWhole)
    (arg6 : Memref sig .tc .vmem S12x128 .f32) (harg6 : arg6.IsWhole)
    (arg7 : Memref sig .tc .vmem S12x1 .f32) (harg7 : arg7.IsWhole)
    (arg8 : Memref sig .tc .vmem S2x1x768 .f32) (harg8 : arg8.IsWhole)
    (arg9 : Memref sig .tc .vmem S6x128x768 .bf16) (harg9 : arg9.IsWhole)
    (arg10 : Memref sig .tc .vmem S1x8x24576 .f32) (harg10 : arg10.IsWhole)
    (arg11 : Memref sig .tc .vmem S2x2x32x768 .f32) (harg11 : arg11.IsWhole)
    (arg12 : Memref sig .tc .vmem S2x32x768 .f32) (harg12 : arg12.IsWhole)
    (X1 : S2x128x4096.Idx → Elt F .f32) (X2 : S128x384.Idx → Elt F .f32) (X3 : S128x1.Idx → Elt F .f32) (X4 : S6x128.Idx → Elt F .f32) (X5 : S6x1.Idx → Elt F .f32) (X6 : S12x128.Idx → Elt F .f32) (X7 : S12x1.Idx → Elt F .f32) (X8 : S2x1x768.Idx → Elt F .f32) (X9 : S6x128x768.Idx → Elt F .bf16)

/-- The objectness pieces and the regression pieces that the body writes when its inputs read `X1`, …, `X9`. -/
def pieces : List (View.Piece (Elt F) S1x8x24576 .f32) × List (View.Piece (Elt F) S2x2x32x768 .f32) :=
  (kernelRun c i arg1 harg1 arg2 harg2 arg3 harg3 arg4 harg4 arg5 harg5 arg6 harg6 arg7 harg7 arg8 harg8 arg9 harg9 arg10 harg10 arg11 harg11 arg12 harg12 (harg1.unread X1) (harg2.unread X2) (harg3.unread X3) (harg4.unread X4) (harg5.unread X5) (harg6.unread X6) (harg7.unread X7) (harg8.unread X8) (harg9.unread X9)).val

/-- What the body leaves in the objectness block over `Y`. -/
def left10 (Y : S1x8x24576.Idx → Elt F .f32) : S1x8x24576.Idx → Elt F .f32 :=
  arg10.view.read (Elt F) (arg10.view.writes (Elt F) (harg10.unread Y) (pieces c i arg1 harg1 arg2 harg2 arg3 harg3 arg4 harg4 arg5 harg5 arg6 harg6 arg7 harg7 arg8 harg8 arg9 harg9 arg10 harg10 arg11 harg11 arg12 harg12 X1 X2 X3 X4 X5 X6 X7 X8 X9).1)

/-- What the body leaves in the regression block over `Y`. -/
def left11 (Y : S2x2x32x768.Idx → Elt F .f32) : S2x2x32x768.Idx → Elt F .f32 :=
  arg11.view.read (Elt F) (arg11.view.writes (Elt F) (harg11.unread Y) (pieces c i arg1 harg1 arg2 harg2 arg3 harg3 arg4 harg4 arg5 harg5 arg6 harg6 arg7 harg7 arg8 harg8 arg9 harg9 arg10 harg10 arg11 harg11 arg12 harg12 X1 X2 X3 X4 X5 X6 X7 X8 X9).2)

/-- What the body leaves in the anchor block over `Y`: two pieces written at the first point only. -/
def left12 (Y : S2x32x768.Idx → Elt F .f32) : S2x32x768.Idx → Elt F .f32 :=
  arg12.view.read (Elt F) (if k0_cond1 i = 1#1 then arg12.view.writes (Elt F) (harg12.unread Y) (anchPieces
      (View.readAt (Elt F) arg8.view (Rect.unit (s := S2x1x768) ![0, 0, 0] S1x1x768.size inb_S2x1x768_S1x1x768_0_0_0).toLoadRect (harg8.unread X8))
      (View.readAt (Elt F) arg8.view (Rect.unit (s := S2x1x768) ![1, 0, 0] S1x1x768.size inb_S2x1x768_S1x1x768_1_0_0).toLoadRect (harg8.unread X8)))
    else harg12.unread Y)

/-- The body's triple over owned operands. -/
theorem kernel_owns (X10 : S1x8x24576.Idx → Elt F .f32) (X11 : S2x2x32x768.Idx → Elt F .f32) (X12 : S2x32x768.Idx → Elt F .f32) (Q : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare (left10 c i arg1 harg1 arg2 harg2 arg3 harg3 arg4 harg4 arg5 harg5 arg6 harg6 arg7 harg7 arg8 harg8 arg9 harg9 arg10 harg10 arg11 harg11 arg12 harg12 X1 X2 X3 X4 X5 X6 X7 X8 X9 X10) ∗ owns (c : Thread nD τ) arg11 fullShare (left11 c i arg1 harg1 arg2 harg2 arg3 harg3 arg4 harg4 arg5 harg5 arg6 harg6 arg7 harg7 arg8 harg8 arg9 harg9 arg10 harg10 arg11 harg11 arg12 harg12 X1 X2 X3 X4 X5 X6 X7 X8 X9 X11) ∗ owns (c : Thread nD τ) arg12 fullShare (left12 i arg8 harg8 arg12 harg12 X8 X12)) -∗ Q ⟨⟩))
      ⊢ wp frame (wpE (defs₀ (F := F)) Variants.none c none) Set.univ (cc0__rpn_kernel i arg1 harg1 arg2 harg2 arg3 harg3 arg4 harg4 arg5 harg5 arg6 harg6 arg7 harg7 arg8 harg8 arg9 harg9 arg10 harg10 arg11 harg11 arg12 harg12) Q := by
  iintro ⟨H1, H2, H3, H4, H5, H6, H7, H8, H9, H10, H11, H12, Hk⟩
  ihave H1 := (owns_whole c arg1 harg1 X1) $$ H1
  ihave H2 := (owns_whole c arg2 harg2 X2) $$ H2
  ihave H3 := (owns_whole c arg3 harg3 X3) $$ H3
  ihave H4 := (owns_whole c arg4 harg4 X4) $$ H4
  ihave H5 := (owns_whole c arg5 harg5 X5) $$ H5
  ihave H6 := (owns_whole c arg6 harg6 X6) $$ H6
  ihave H7 := (owns_whole c arg7 harg7 X7) $$ H7
  ihave H8 := (owns_whole c arg8 harg8 X8) $$ H8
  ihave H9 := (owns_whole c arg9 harg9 X9) $$ H9
  ihave H10 := (owns_whole c arg10 harg10 X10) $$ H10
  ihave H11 := (owns_whole c arg11 harg11 X11) $$ H11
  ihave H12 := (owns_whole c arg12 harg12 X12) $$ H12
  iapply ((kernelRun c i arg1 harg1 arg2 harg2 arg3 harg3 arg4 harg4 arg5 harg5 arg6 harg6 arg7 harg7 arg8 harg8 arg9 harg9 arg10 harg10 arg11 harg11 arg12 harg12 (harg1.unread X1) (harg2.unread X2) (harg3.unread X3) (harg4.unread X4) (harg5.unread X5) (harg6.unread X6) (harg7.unread X7) (harg8.unread X8) (harg9.unread X9)).property (harg10.unread X10) (harg11.unread X11) (harg12.unread X12) Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  iapply Hk
  isplitl [H1]; · iapply (unread_owns c arg1 harg1 X1); iexact H1
  isplitl [H2]; · iapply (unread_owns c arg2 harg2 X2); iexact H2
  isplitl [H3]; · iapply (unread_owns c arg3 harg3 X3); iexact H3
  isplitl [H4]; · iapply (unread_owns c arg4 harg4 X4); iexact H4
  isplitl [H5]; · iapply (unread_owns c arg5 harg5 X5); iexact H5
  isplitl [H6]; · iapply (unread_owns c arg6 harg6 X6); iexact H6
  isplitl [H7]; · iapply (unread_owns c arg7 harg7 X7); iexact H7
  isplitl [H8]; · iapply (unread_owns c arg8 harg8 X8); iexact H8
  isplitl [H9]; · iapply (unread_owns c arg9 harg9 X9); iexact H9
  isplitl [H10]; · iapply (whole_owns c arg10 harg10 _); iexact H10
  isplitl [H11]; · iapply (whole_owns c arg11 harg11 _); iexact H11
  iapply (whole_owns c arg12 harg12 _); iexact H12

end Operands

variable (m : (ℓ : Loc nD τ sig) → Buf (Elt F) ℓ)

/-- The objectness block after the body at point `t`, over `Y`. -/
def upd9 (c : Dev nD) (t : Fin cfg0.N) (Y : S1x8x24576.Idx → Elt F .f32) : S1x8x24576.Idx → Elt F .f32 :=
  left10 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) Y

/-- The regression block after the body at point `t`, over `Y`. -/
def upd10 (c : Dev nD) (t : Fin cfg0.N) (Y : S2x2x32x768.Idx → Elt F .f32) : S2x2x32x768.Idx → Elt F .f32 :=
  left11 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) Y

/-- The anchor block after the body at point `t`, over `Y`. -/
def upd11 (c : Dev nD) (t : Fin cfg0.N) (Y : S2x32x768.Idx → Elt F .f32) : S2x32x768.Idx → Elt F .f32 :=
  left12 (grid0.coords t) (win0_7.stage (cfg0.slots t 7)) (hstage0_7 ((cfg0.slots t 7).cast nbuf0_7)) (win0_11.stage (cfg0.slots t 11)) (hstage0_11 ((cfg0.slots t 11).cast nbuf0_11)) (iblk m c 7 t) Y

end Cert.KernelIdeal.Hand

end
-- ==== Proof.Oblig.lean ====
/-
  Hand-written, untrusted. The relational proof data of the pipeline and its body obligation: every input window is found at its array's
  block and left so; every output window is left at the body's update (Owned.lean) of what it was found at. At any value instance.
-/
module

public import proofs.«01_k».proof.Proof.Owned

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ)

/-- Exact data for the inputs: each holds its array's block before and after the body. (The outputs' entries are unused: `rdat` overrides them.) -/
def dats (c : Dev nD) : Pipeline.Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => Pipeline.Dat.unnamed (cfg := cfg0) 9 t
    | 10 => Pipeline.Dat.unnamed (cfg := cfg0) 10 t
    | 11 => Pipeline.Dat.unnamed (cfg := cfg0) 11 t
    | ⟨_ + 12, h⟩ => absurd h (Nat.not_lt.2 (Nat.le_add_left _ _))
  Φ _ := Pipeline.ΦA spec0 c
  q _ := fullShare
  owed _ := 0

/-- The relation that an output window is held to: what the body leaves is its update of what it found. -/
def ovr (c : Dev nD) : (w : Fin cfg0.W) → Option (Fin cfg0.N → (Y X : (cfg0.win w).block.Idx → Elt F (cfg0.win w).elt) → Prop)
  | 9 => some fun t Y X => X = upd9 m c t Y
  | 10 => some fun t Y X => X = upd10 m c t Y
  | 11 => some fun t Y X => X = upd11 m c t Y
  | 0 => none
  | 1 => none
  | 2 => none
  | 3 => none
  | 4 => none
  | 5 => none
  | 6 => none
  | 7 => none
  | 8 => none
  | ⟨_ + 12, h⟩ => absurd h (Nat.not_lt.2 (Nat.le_add_left _ _))

/-- The relational proof data on core `c`. -/
def rdat (c : Dev nD) : Pipeline.RDat τ (Elt F) Unit ℕ (UR sig nD τ) ℕ cfg0 c := (dats m c).toR.override (ovr m c)

theorem dats_A (c : Dev nD) (w : Fin cfg0.W) : (dats m c).A w = V m c (Pipeline.arrRef spec0 w) := by dsimp only [dats]

theorem dats_after_0 (c : Dev nD) (t : Fin cfg0.N) : (dats m c).after 0 t = iblk m c 0 t := by dsimp only [dats]
theorem ovr_0 (c : Dev nD) : ovr m c 0 = none := by dsimp only [ovr]
/-- Input window 0 is found at its block. -/
theorem finds_0 (c : Dev nD) (t : Fin cfg0.N) (Y : (cfg0.win 0).block.Idx → Elt F (cfg0.win 0).elt) (h : (rdat m c).Finds 0 t Y) :
    Y = iblk m c 0 t := by
  obtain ⟨d, rfl⟩ := (dats m c).toR_finds 0 t Y (((dats m c).toR.override_finds (ovr_0 m c) t Y).mp h)
  exact before0_0_of m (dats m c) (dats_A m c 0) (dats_after_0 m c) t d
/-- Input window 0 left at its block is left as the data say. -/
theorem after_0 (c : Dev nD) (t : Fin cfg0.N) (Y : (cfg0.win 0).block.Idx → Elt F (cfg0.win 0).elt) : (rdat m c).after 0 t Y (iblk m c 0 t) := by
  rw [show (rdat m c).after 0 = (dats m c).toR.after 0 from Pipeline.RDat.override_after_of_eq_none _ (ovr_0 m c)]
  exact dats_after_0 m c t ▸ rfl
theorem dats_after_1 (c : Dev nD) (t : Fin cfg0.N) : (dats m c).after 1 t = iblk m c 1 t := by dsimp only [dats]
theorem ovr_1 (c : Dev nD) : ovr m c 1 = none := by dsimp only [ovr]
/-- Input window 1 is found at its block. -/
theorem finds_1 (c : Dev nD) (t : Fin cfg0.N) (Y : (cfg0.win 1).block.Idx → Elt F (cfg0.win 1).elt) (h : (rdat m c).Finds 1 t Y) :
    Y = iblk m c 1 t := by
  obtain ⟨d, rfl⟩ := (dats m c).toR_finds 1 t Y (((dats m c).toR.override_finds (ovr_1 m c) t Y).mp h)
  exact before0_1_of m (dats m c) (dats_A m c 1) (dats_after_1 m c) t d
/-- Input window 1 left at its block is left as the data say. -/
theorem after_1 (c : Dev nD) (t : Fin cfg0.N) (Y : (cfg0.win 1).block.Idx → Elt F (cfg0.win 1).elt) : (rdat m c).after 1 t Y (iblk m c 1 t) := by
  rw [show (rdat m c).after 1 = (dats m c).toR.after 1 from Pipeline.RDat.override_after_of_eq_none _ (ovr_1 m c)]
  exact dats_after_1 m c t ▸ rfl
theorem dats_after_2 (c : Dev nD) (t : Fin cfg0.N) : (dats m c).after 2 t = iblk m c 2 t := by dsimp only [dats]
theorem ovr_2 (c : Dev nD) : ovr m c 2 = none := by dsimp only [ovr]
/-- Input window 2 is found at its block. -/
theorem finds_2 (c : Dev nD) (t : Fin cfg0.N) (Y : (cfg0.win 2).block.Idx → Elt F (cfg0.win 2).elt) (h : (rdat m c).Finds 2 t Y) :
    Y = iblk m c 2 t := by
  obtain ⟨d, rfl⟩ := (dats m c).toR_finds 2 t Y (((dats m c).toR.override_finds (ovr_2 m c) t Y).mp h)
  exact before0_2_of m (dats m c) (dats_A m c 2) (dats_after_2 m c) t d
/-- Input window 2 left at its block is left as the data say. -/
theorem after_2 (c : Dev nD) (t : Fin cfg0.N) (Y : (cfg0.win 2).block.Idx → Elt F (cfg0.win 2).elt) : (rdat m c).after 2 t Y (iblk m c 2 t) := by
  rw [show (rdat m c).after 2 = (dats m c).toR.after 2 from Pipeline.RDat.override_after_of_eq_none _ (ovr_2 m c)]
  exact dats_after_2 m c t ▸ rfl
theorem dats_after_3 (c : Dev nD) (t : Fin cfg0.N) : (dats m c).after 3 t = iblk m c 3 t := by dsimp only [dats]
theorem ovr_3 (c : Dev nD) : ovr m c 3 = none := by dsimp only [ovr]
/-- Input window 3 is found at its block. -/
theorem finds_3 (c : Dev nD) (t : Fin cfg0.N) (Y : (cfg0.win 3).block.Idx → Elt F (cfg0.win 3).elt) (h : (rdat m c).Finds 3 t Y) :
    Y = iblk m c 3 t := by
  obtain ⟨d, rfl⟩ := (dats m c).toR_finds 3 t Y (((dats m c).toR.override_finds (ovr_3 m c) t Y).mp h)
  exact before0_3_of m (dats m c) (dats_A m c 3) (dats_after_3 m c) t d
/-- Input window 3 left at its block is left as the data say. -/
theorem after_3 (c : Dev nD) (t : Fin cfg0.N) (Y : (cfg0.win 3).block.Idx → Elt F (cfg0.win 3).elt) : (rdat m c).after 3 t Y (iblk m c 3 t) := by
  rw [show (rdat m c).after 3 = (dats m c).toR.after 3 from Pipeline.RDat.override_after_of_eq_none _ (ovr_3 m c)]
  exact dats_after_3 m c t ▸ rfl
theorem dats_after_4 (c : Dev nD) (t : Fin cfg0.N) : (dats m c).after 4 t = iblk m c 4 t := by dsimp only [dats]
theorem ovr_4 (c : Dev nD) : ovr m c 4 = none := by dsimp only [ovr]
/-- Input window 4 is found at its block. -/
theorem finds_4 (c : Dev nD) (t : Fin cfg0.N) (Y : (cfg0.win 4).block.Idx → Elt F (cfg0.win 4).elt) (h : (rdat m c).Finds 4 t Y) :
    Y = iblk m c 4 t := by
  obtain ⟨d, rfl⟩ := (dats m c).toR_finds 4 t Y (((dats m c).toR.override_finds (ovr_4 m c) t Y).mp h)
  exact before0_4_of m (dats m c) (dats_A m c 4) (dats_after_4 m c) t d
/-- Input window 4 left at its block is left as the data say. -/
theorem after_4 (c : Dev nD) (t : Fin cfg0.N) (Y : (cfg0.win 4).block.Idx → Elt F (cfg0.win 4).elt) : (rdat m c).after 4 t Y (iblk m c 4 t) := by
  rw [show (rdat m c).after 4 = (dats m c).toR.after 4 from Pipeline.RDat.override_after_of_eq_none _ (ovr_4 m c)]
  exact dats_after_4 m c t ▸ rfl
theorem dats_after_5 (c : Dev nD) (t : Fin cfg0.N) : (dats m c).after 5 t = iblk m c 5 t := by dsimp only [dats]
theorem ovr_5 (c : Dev nD) : ovr m c 5 = none := by dsimp only [ovr]
/-- Input window 5 is found at its block. -/
theorem finds_5 (c : Dev nD) (t : Fin cfg0.N) (Y : (cfg0.win 5).block.Idx → Elt F (cfg0.win 5).elt) (h : (rdat m c).Finds 5 t Y) :
    Y = iblk m c 5 t := by
  obtain ⟨d, rfl⟩ := (dats m c).toR_finds 5 t Y (((dats m c).toR.override_finds (ovr_5 m c) t Y).mp h)
  exact before0_5_of m (dats m c) (dats_A m c 5) (dats_after_5 m c) t d
/-- Input window 5 left at its block is left as the data say. -/
theorem after_5 (c : Dev nD) (t : Fin cfg0.N) (Y : (cfg0.win 5).block.Idx → Elt F (cfg0.win 5).elt) : (rdat m c).after 5 t Y (iblk m c 5 t) := by
  rw [show (rdat m c).after 5 = (dats m c).toR.after 5 from Pipeline.RDat.override_after_of_eq_none _ (ovr_5 m c)]
  exact dats_after_5 m c t ▸ rfl
theorem dats_after_6 (c : Dev nD) (t : Fin cfg0.N) : (dats m c).after 6 t = iblk m c 6 t := by dsimp only [dats]
theorem ovr_6 (c : Dev nD) : ovr m c 6 = none := by dsimp only [ovr]
/-- Input window 6 is found at its block. -/
theorem finds_6 (c : Dev nD) (t : Fin cfg0.N) (Y : (cfg0.win 6).block.Idx → Elt F (cfg0.win 6).elt) (h : (rdat m c).Finds 6 t Y) :
    Y = iblk m c 6 t := by
  obtain ⟨d, rfl⟩ := (dats m c).toR_finds 6 t Y (((dats m c).toR.override_finds (ovr_6 m c) t Y).mp h)
  exact before0_6_of m (dats m c) (dats_A m c 6) (dats_after_6 m c) t d
/-- Input window 6 left at its block is left as the data say. -/
theorem after_6 (c : Dev nD) (t : Fin cfg0.N) (Y : (cfg0.win 6).block.Idx → Elt F (cfg0.win 6).elt) : (rdat m c).after 6 t Y (iblk m c 6 t) := by
  rw [show (rdat m c).after 6 = (dats m c).toR.after 6 from Pipeline.RDat.override_after_of_eq_none _ (ovr_6 m c)]
  exact dats_after_6 m c t ▸ rfl
theorem dats_after_7 (c : Dev nD) (t : Fin cfg0.N) : (dats m c).after 7 t = iblk m c 7 t := by dsimp only [dats]
theorem ovr_7 (c : Dev nD) : ovr m c 7 = none := by dsimp only [ovr]
/-- Input window 7 is found at its block. -/
theorem finds_7 (c : Dev nD) (t : Fin cfg0.N) (Y : (cfg0.win 7).block.Idx → Elt F (cfg0.win 7).elt) (h : (rdat m c).Finds 7 t Y) :
    Y = iblk m c 7 t := by
  obtain ⟨d, rfl⟩ := (dats m c).toR_finds 7 t Y (((dats m c).toR.override_finds (ovr_7 m c) t Y).mp h)
  exact before0_7_of m (dats m c) (dats_A m c 7) (dats_after_7 m c) t d
/-- Input window 7 left at its block is left as the data say. -/
theorem after_7 (c : Dev nD) (t : Fin cfg0.N) (Y : (cfg0.win 7).block.Idx → Elt F (cfg0.win 7).elt) : (rdat m c).after 7 t Y (iblk m c 7 t) := by
  rw [show (rdat m c).after 7 = (dats m c).toR.after 7 from Pipeline.RDat.override_after_of_eq_none _ (ovr_7 m c)]
  exact dats_after_7 m c t ▸ rfl
theorem dats_after_8 (c : Dev nD) (t : Fin cfg0.N) : (dats m c).after 8 t = iblk m c 8 t := by dsimp only [dats]
theorem ovr_8 (c : Dev nD) : ovr m c 8 = none := by dsimp only [ovr]
/-- Input window 8 is found at its block. -/
theorem finds_8 (c : Dev nD) (t : Fin cfg0.N) (Y : (cfg0.win 8).block.Idx → Elt F (cfg0.win 8).elt) (h : (rdat m c).Finds 8 t Y) :
    Y = iblk m c 8 t := by
  obtain ⟨d, rfl⟩ := (dats m c).toR_finds 8 t Y (((dats m c).toR.override_finds (ovr_8 m c) t Y).mp h)
  exact before0_8_of m (dats m c) (dats_A m c 8) (dats_after_8 m c) t d
/-- Input window 8 left at its block is left as the data say. -/
theorem after_8 (c : Dev nD) (t : Fin cfg0.N) (Y : (cfg0.win 8).block.Idx → Elt F (cfg0.win 8).elt) : (rdat m c).after 8 t Y (iblk m c 8 t) := by
  rw [show (rdat m c).after 8 = (dats m c).toR.after 8 from Pipeline.RDat.override_after_of_eq_none _ (ovr_8 m c)]
  exact dats_after_8 m c t ▸ rfl
/-- Output window 9 is left at the body's update of what it was found at. -/
theorem after_9 (c : Dev nD) : (rdat m c).after 9 = fun t Y X => X = upd9 m c t Y :=
  Pipeline.RDat.override_after_of_eq_some _ (by dsimp only [ovr]; rfl)
/-- Output window 10 is left at the body's update of what it was found at. -/
theorem after_10 (c : Dev nD) : (rdat m c).after 10 = fun t Y X => X = upd10 m c t Y :=
  Pipeline.RDat.override_after_of_eq_some _ (by dsimp only [ovr]; rfl)
/-- Output window 11 is left at the body's update of what it was found at. -/
theorem after_11 (c : Dev nD) : (rdat m c).after 11 = fun t Y X => X = upd11 m c t Y :=
  Pipeline.RDat.override_after_of_eq_some _ (by dsimp only [ovr]; rfl)

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The body at point `t`, at any contents that the windows may be found at. -/
theorem sound_body (c : Dev nD) (t : Fin cfg0.N) (Y : (w : Fin cfg0.W) → (cfg0.win w).block.Idx → Elt F (cfg0.win w).elt)
    (hY : ∀ w, (rdat m c).Finds w t (Y w)) :
    iprop((rdat m c).Φ t.castSucc ∗ (rdat m c).owesAt () t.castSucc
        ∗ owns (c : Thread nD τ) ((cfg0.win 0).stage (cfg0.slots t 0)) fullShare (Y 0) ∗ owns (c : Thread nD τ) ((cfg0.win 1).stage (cfg0.slots t 1)) fullShare (Y 1) ∗ owns (c : Thread nD τ) ((cfg0.win 2).stage (cfg0.slots t 2)) fullShare (Y 2) ∗ owns (c : Thread nD τ) ((cfg0.win 3).stage (cfg0.slots t 3)) fullShare (Y 3) ∗ owns (c : Thread nD τ) ((cfg0.win 4).stage (cfg0.slots t 4)) fullShare (Y 4) ∗ owns (c : Thread nD τ) ((cfg0.win 5).stage (cfg0.slots t 5)) fullShare (Y 5) ∗ owns (c : Thread nD τ) ((cfg0.win 6).stage (cfg0.slots t 6)) fullShare (Y 6) ∗ owns (c : Thread nD τ) ((cfg0.win 7).stage (cfg0.slots t 7)) fullShare (Y 7) ∗ owns (c : Thread nD τ) ((cfg0.win 8).stage (cfg0.slots t 8)) fullShare (Y 8) ∗ owns (c : Thread nD τ) ((cfg0.win 9).stage (cfg0.slots t 9)) fullShare (Y 9) ∗ owns (c : Thread nD τ) ((cfg0.win 10).stage (cfg0.slots t 10)) fullShare (Y 10) ∗ owns (c : Thread nD τ) ((cfg0.win 11).stage (cfg0.slots t 11)) fullShare (Y 11))
      ⊢ wp frame (wpE (defs₀ (F := F)) Variants.none c none) Set.univ (bodyAt0 t) fun _ =>
        iprop((rdat m c).Φ t.succ ∗ (rdat m c).owesAt () t.succ
          ∗ (∃ X, ⌜(rdat m c).after 0 t (Y 0) X⌝ ∗ owns (c : Thread nD τ) ((cfg0.win 0).stage (cfg0.slots t 0)) fullShare X) ∗ (∃ X, ⌜(rdat m c).after 1 t (Y 1) X⌝ ∗ owns (c : Thread nD τ) ((cfg0.win 1).stage (cfg0.slots t 1)) fullShare X) ∗ (∃ X, ⌜(rdat m c).after 2 t (Y 2) X⌝ ∗ owns (c : Thread nD τ) ((cfg0.win 2).stage (cfg0.slots t 2)) fullShare X) ∗ (∃ X, ⌜(rdat m c).after 3 t (Y 3) X⌝ ∗ owns (c : Thread nD τ) ((cfg0.win 3).stage (cfg0.slots t 3)) fullShare X) ∗ (∃ X, ⌜(rdat m c).after 4 t (Y 4) X⌝ ∗ owns (c : Thread nD τ) ((cfg0.win 4).stage (cfg0.slots t 4)) fullShare X) ∗ (∃ X, ⌜(rdat m c).after 5 t (Y 5) X⌝ ∗ owns (c : Thread nD τ) ((cfg0.win 5).stage (cfg0.slots t 5)) fullShare X) ∗ (∃ X, ⌜(rdat m c).after 6 t (Y 6) X⌝ ∗ owns (c : Thread nD τ) ((cfg0.win 6).stage (cfg0.slots t 6)) fullShare X) ∗ (∃ X, ⌜(rdat m c).after 7 t (Y 7) X⌝ ∗ owns (c : Thread nD τ) ((cfg0.win 7).stage (cfg0.slots t 7)) fullShare X) ∗ (∃ X, ⌜(rdat m c).after 8 t (Y 8) X⌝ ∗ owns (c : Thread nD τ) ((cfg0.win 8).stage (cfg0.slots t 8)) fullShare X) ∗ (∃ X, ⌜(rdat m c).after 9 t (Y 9) X⌝ ∗ owns (c : Thread nD τ) ((cfg0.win 9).stage (cfg0.slots t 9)) fullShare X) ∗ (∃ X, ⌜(rdat m c).after 10 t (Y 10) X⌝ ∗ owns (c : Thread nD τ) ((cfg0.win 10).stage (cfg0.slots t 10)) fullShare X) ∗ (∃ X, ⌜(rdat m c).after 11 t (Y 11) X⌝ ∗ owns (c : Thread nD τ) ((cfg0.win 11).stage (cfg0.slots t 11)) fullShare X)) := by
  rw [show (rdat m c).Φ t.succ = (rdat m c).Φ t.castSucc from rfl,
    show (rdat m c).owesAt () t.succ = (rdat m c).owesAt () t.castSucc from rfl]
  rw [finds_0 m c t (Y 0) (hY 0)]
  rw [finds_1 m c t (Y 1) (hY 1)]
  rw [finds_2 m c t (Y 2) (hY 2)]
  rw [finds_3 m c t (Y 3) (hY 3)]
  rw [finds_4 m c t (Y 4) (hY 4)]
  rw [finds_5 m c t (Y 5) (hY 5)]
  rw [finds_6 m c t (Y 6) (hY 6)]
  rw [finds_7 m c t (Y 7) (hY 7)]
  rw [finds_8 m c t (Y 8) (hY 8)]
  unfold bodyAt0
  iintro ⟨HΦ, HO, H1, H2, H3, H4, H5, H6, H7, H8, H9, H10, H11, H12⟩
  iapply (kernel_owns c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (iblk m c 0 t) (iblk m c 1 t) (iblk m c 2 t) (iblk m c 3 t) (iblk m c 4 t) (iblk m c 5 t) (iblk m c 6 t) (iblk m c 7 t) (iblk m c 8 t) (Y 9) (Y 10) (Y 11) _)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H1, H2, H3, H4, H5, H6, H7, H8, H9, H10, H11, H12⟩
  isplitl [HΦ]; · iexact HΦ
  isplitl [HO]; · iexact HO
  isplitl [H1]
  · iexists _
    isplitr; swap; · iexact H1
    ipureintro; exact after_0 m c t _
  isplitl [H2]
  · iexists _
    isplitr; swap; · iexact H2
    ipureintro; exact after_1 m c t _
  isplitl [H3]
  · iexists _
    isplitr; swap; · iexact H3
    ipureintro; exact after_2 m c t _
  isplitl [H4]
  · iexists _
    isplitr; swap; · iexact H4
    ipureintro; exact after_3 m c t _
  isplitl [H5]
  · iexists _
    isplitr; swap; · iexact H5
    ipureintro; exact after_4 m c t _
  isplitl [H6]
  · iexists _
    isplitr; swap; · iexact H6
    ipureintro; exact after_5 m c t _
  isplitl [H7]
  · iexists _
    isplitr; swap; · iexact H7
    ipureintro; exact after_6 m c t _
  isplitl [H8]
  · iexists _
    isplitr; swap; · iexact H8
    ipureintro; exact after_7 m c t _
  isplitl [H9]
  · iexists _
    isplitr; swap; · iexact H9
    ipureintro; exact after_8 m c t _
  isplitl [H10]
  · iexists _
    isplitr; swap; · iexact H10
    ipureintro; exact (after_9 m c ▸ rfl : (rdat m c).after 9 t (Y 9) (upd9 m c t (Y 9)))
  isplitl [H11]
  · iexists _
    isplitr; swap; · iexact H11
    ipureintro; exact (after_10 m c ▸ rfl : (rdat m c).after 10 t (Y 10) (upd10 m c t (Y 10)))
  iexists _
  isplitr; swap; · iexact H12
  ipureintro; exact (after_11 m c ▸ rfl : (rdat m c).after 11 t (Y 11) (upd11 m c t (Y 11)))

theorem rdat_A (c : Dev nD) (w : Fin cfg0.W) : (rdat m c).A w = V m c (Pipeline.arrRef spec0 w) := dats_A m c w

/-- The body obligation of the relational data. -/
theorem body_obligation (c : Dev nD) :
    (rdat (F := F) m c).BodyObligation (defs₀ (F := F)) Variants.none () Set.univ := fun t Y hY => by
  rw [bigSep_W0, bigSep_W0, defs₀_row]
  exact triple_restated (sound_body m c t Y hY) rfl .rfl fun _ => .rfl

end Cert.KernelIdeal.Hand

end
-- ==== Proof.Launch.lean ====
/-
  Hand-written, untrusted. The launch of a program that is host lines, one pipelined region, and host lines again, for relational proof
  data. The library's run of this shape says nothing of the buffers that the later lines write; this one says what they hold: there are
  contents `A` of the windows' arrays, each one that its array may hold after every write-back, such that every buffer that is no window's
  array ends at what the later lines compute from the region-entry contents with the arrays at `A`.
-/
module

public import Idealize.ShloMosaic.Lib.Pipeline.FrameSuffix
public import Idealize.ShloMosaic.Lib.Tactic

@[expose] public section

noncomputable section

namespace Cert.LaunchTail

open Idealize.ShloMosaic Idealize.ShloMosaic.TcCoe Idealize.ShloMosaic.Pipeline
open Idealize.SL Idealize.SL.RA
open Idealize.SL.BI (sProp bigSep)
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type} {Λ₀ : Idealize.SL.Sem.Labels}

local notation "𝕄" => MT nD τ sig Unit Val ℕ (UR sig nD τ) ℕ

section OneDatum

variable [∀ e, Nonempty (Val e)] {cfg : Cfg sig Λ₀} {c : Dev nD} (rd : RDat τ Val Unit ℕ (UR sig nD τ) ℕ cfg c)

/-- The arrays at some contents that they may hold after `n` points, with the contents named. -/
theorem arraysAt_open (n : Nat) :
    (rd.arraysAt n : sProp 𝕄) ⊢ iprop(∃ A, ⌜∀ w, rd.ArrAt w n (A w)⌝ ∗ rd.arrays A) := by
  unfold RDat.arraysAt RDat.arrays
  iintro H
  ihave H1 := (BI.bigSep_exists_pi Finset.univ (fun w F => iprop(⌜rd.ArrAt w n F⌝
    ∗ (cfg.win w).arr.view.loc (c.tc : Thread nD τ) ↦[(cfg.win w).arr.view.set]{rd.share w} F))) $$ H
  icases H1 with ⟨%A, H⟩
  ihave H2 := (BI.bigSep_pure_sep Finset.univ (fun w => rd.ArrAt w n (A w))
    (fun w => (cfg.win w).arr.view.loc (c.tc : Thread nD τ) ↦[(cfg.win w).arr.view.set]{rd.share w} A w)) $$ H
  icases H2 with ⟨%hA, H⟩
  iexists A
  isplitr
  · ipureintro; exact fun w => hA w (Finset.mem_univ w)
  iexact H

/-- And unnamed again. -/
theorem arraysAt_close (n : Nat) (A) (hA : ∀ w, rd.ArrAt w n (A w)) : (rd.arrays A : sProp 𝕄) ⊢ rd.arraysAt n := by
  unfold RDat.arraysAt RDat.arrays
  refine BI.bigSep_mono fun w _ => ?_
  show ((cfg.win w).arr.view.loc (c.tc : Thread nD τ) ↦[(cfg.win w).arr.view.set]{rd.share w} A w : sProp 𝕄)
    ⊢ iprop(∃ F, ⌜rd.ArrAt w n F⌝ ∗ (cfg.win w).arr.view.loc (c.tc : Thread nD τ) ↦[(cfg.win w).arr.view.set]{rd.share w} F)
  iintro H
  iexists (A w)
  isplitr
  · ipureintro; exact hA w
  iexact H

end OneDatum

variable {P : Type} [Fintype P] [DecidableEq P] [∀ e, Nonempty (Val e)]
variable (pcs : P → PCfg sig Λ₀ Val) (a : (p : P) → (pcs p).Adm) (p : P) (kit : PLaunchFacts (nD := nD) (τ := τ) pcs p)
  (defs₀ : Defs nD τ sig Val Λ₀) (𝒱₀ : Variants)

/-- What the run ends with: every array at contents that it may hold; every buffer that is no window's array at what the lines `ops`
    compute from the entry contents `V₀` with the arrays at some `A` that they may hold; every semaphore at zero. -/
def Post {cfg : Cfg sig Λ₀} (pre : Prefetch sig) (rdat : (c : Dev nD) → RDat τ Val Unit ℕ (UR sig nD τ) ℕ cfg c)
    (V₀ : Dev nD → Valuation τ sig Val) (ops : List (HloOp τ sig Val)) (s : MemSt nD τ sig Val) : Prop :=
  (∀ c : Dev nD, (∀ w, (rdat c).ArrAt w cfg.N (s.mem ((cfg.spec w).arr.view.loc (c.tc : Thread nD τ))))
    ∧ ∃ A, (∀ w, (rdat c).ArrAt w cfg.N (A w))
      ∧ ∀ b ∈ restRefsP sig pre cfg.spec, s.mem ((c.tc : Thread nD τ).loc b)
          = StableHlo.after ops (withArrays cfg.spec c (V₀ c) A) (Proc.devRef .tc b))
  ∧ s.sem = fun _ => 0

include kit in
/-- The run. -/
theorem run (rdat : (c : Dev nD) → RDat τ Val Unit ℕ (UR sig nD τ) ℕ (pin pcs a p) c)
    (m : (ℓ : Loc nD τ sig) → Buf Val ℓ) (g : Dev nD → PrngReg)
    (main : Dev nD → Prog (TpuEff nD τ sig Val (Sig Λ₀ P fun p => (pcs p).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig (pcs p).pre (pin pcs a p).spec)
    (hfresh : ∀ ops ∈ opss, ∀ op ∈ ops, op.fresh = ∅)
    (hkeep : ∀ ops ∈ opss, ∀ op ∈ ops, ∀ w, Proc.devRef .tc (arrRef (pin pcs a p).spec w) ∉ op.writes)
    (hmain : HMainPK (Ix := Unit) (Name := ℕ) (U := UR sig nD τ) (Lvl := ℕ) pcs p defs₀ 𝒱₀ m main
      (fun c b => V₀ c (Proc.devRef .tc b)) (fun _ => chain (opss.map StableHlo.seq)))
    (hA : ∀ c w, (rdat c).A w = V₀ c (Proc.devRef .tc (arrRef (pin pcs a p).spec w)))
    (hpf : ∀ c k, V₀ c (Proc.devRef .tc ((pcs p).pre.ref k)) = (a p).1 k)
    (hin : ∀ c, iprop(ΦA (pin pcs a p).spec c ∗ ΦT (pcs p).pre (a p).1 c) ⊢ (rdat c).Φ 0)
    (hout : ∀ c, (rdat c).Φ (Fin.last (pin pcs a p).N) ⊢ ΦA (pin pcs a p).spec c) :
    θ_run (Pipeline.defs pcs defs₀) (onTc main) (s₀ m g) (fun r => Post (pcs p).pre rdat V₀ opss.flatten r.2) := by
  classical
  have kit₀ := kit.to₀
  have hq : ∀ c w, ((pin pcs a p).spec w).isOut = false → (rdat c).q w = shareOf (pin pcs a p).spec w := fun c w hw =>
    (rdat c).q_eq_shareOf_of_share_full kit.win.arr_inj (hshare c) w hw
  refine RDat.θ_run_region_pf_tail_quiescent pcs a (RDat.familyOf pcs a p rdat) () (kit₀.cellOf_inj a) p kit₀.win
    (OwnSemFacts.none (pin pcs a p).spec) kit₀.pre emb₁ defs₀ 𝒱₀ m g main
    (fun _ => chain (opss.map StableHlo.seq)) (fun c => by rw [RDat.familyOf_self]; exact hbody c)
    kit₀.block_pos kit₀.arr_whole kit₀.stage_whole (fun c t => by rw [RDat.familyOf_self]; exact howed c t)
    (fun _ => iprop(emp)) (initOf (cells (pin pcs a) (kit₀.cellOf_inj a)) (launchToks (pin pcs a) (kit₀.cellOf_inj a)))
    ?own (fun c b => V₀ c (Proc.devRef .tc b)) hmain
    (fun c => by rw [RDat.familyOf_self]; exact (rdat c).arrays_split_shared kit₀.sharedIn kit₀.arr_whole (hq c) _ _ (hA c))
    hpf (fun c => iprop(∃ r, prngReg c r)) (fun c => iprop(∃ r, prngReg c r))
    (fun c => unscopedRestP (Ix := Unit) (Name := ℕ) (U := UR sig nD τ) (Lvl := ℕ) (pcs p).pre (pin pcs a p).spec c
      (fun b => V₀ c (Proc.devRef .tc b)))
    (fun c => iprop(∃ A, ⌜∀ w, (rdat c).ArrAt w (pin pcs a p).N (A w)⌝
      ∗ unscopedRestP (Ix := Unit) (Name := ℕ) (U := UR sig nD τ) (Lvl := ℕ) (pcs p).pre (pin pcs a p).spec c
        (fun b => StableHlo.after opss.flatten (withArrays (pin pcs a p).spec c (V₀ c) A) (Proc.devRef .tc b))))
    ?enter ?entryInv ?exitInv ?tail
    (fun c s => ∃ A, (∀ w, (rdat c).ArrAt w (pin pcs a p).N (A w))
      ∧ ∀ b ∈ restRefsP sig (pcs p).pre (pin pcs a p).spec, s.mem ((c.tc : Thread nD τ).loc b)
          = StableHlo.after opss.flatten (withArrays (pin pcs a p).spec c (V₀ c) A) (Proc.devRef .tc b))
    ?read ?post
  case own =>
    iintro Hu; imodintro
    isplitl [Hu]
    · iapply (show (ownU _ : sProp 𝕄) ⊢ BI.own (emb₁ (initOf (cells (pin pcs a) (kit₀.cellOf_inj a)) (launchToks (pin pcs a) (kit₀.cellOf_inj a)))) from .rfl)
      iexact Hu
    iapply (show (BI.emp : sProp 𝕄) ⊢ bigSep Finset.univ (fun _ : Dev nD => (BI.emp : sProp 𝕄)) from by rw [BI.bigSep_emp_const])
    iempintro
  case enter =>
    intro c
    iintro ⟨HU, -, -, Hp, -⟩; imodintro
    isplitl [Hp]
    · iexists _; iexact Hp
    iexact HU
  case entryInv =>
    intro c
    rw [RDat.familyOf_self]
    refine Entails.trans ?_ (hin c)
    unfold ΦA ΦT
    iintro ⟨Hp, Ht, Hr⟩
    isplitr [Ht]
    · isplitl [Hr] <;> iassumption
    iexact Ht
  case exitInv =>
    intro c
    rw [RDat.familyOf_self]
    refine (hout c).trans ?_
    rw [ownSems0_none]; unfold ΦA
    iintro ⟨Hr, Hp⟩
    isplitl [Hp]; · iexact Hp
    isplitr; · iempintro
    iexact Hr
  case tail =>
    intro c Q'
    rw [RDat.familyOf_self]
    iintro ⟨Hk, Hb, Ha, HZ⟩
    ihave Ha' := (arraysAt_open (rdat c) (pin pcs a p).N) $$ Ha
    icases Ha' with ⟨%A, %hAt, Ha⟩
    have hB : (rdat c).arrays A = arrBufs (pin pcs a p).spec c (fun b => withArrays (pin pcs a p).spec c (V₀ c) A (Proc.devRef .tc b)) :=
      ((rdat c).arrBufs_eq_arrays kit₀.sharedIn kit₀.arr_whole (hq c) _ A fun w =>
        (withArrays_arr (pin pcs a p).spec kit.win.arr_inj c (V₀ c) A w).symm).symm
    iapply (tail_seqs_bufs_b pcs defs₀ 𝒱₀ (pcs p).pre (pin pcs a p).spec c (V₀ c) A opss hsub hfresh hkeep Q')
    isplitl [Hk]
    · iintro ⟨Hb2, Ha2, Hu⟩
      iapply Hk
      isplitl [Hb2]; · iexact Hb2
      isplitl [Ha2]
      · iapply (arraysAt_close (rdat c) (pin pcs a p).N A hAt); iapply (Entails.of_eq hB.symm); iexact Ha2
      iexists A; isplitr
      · ipureintro; exact hAt
      iexact Hu
    isplitl [Hb]; · iexact Hb
    isplitl [Ha]; · iapply (Entails.of_eq hB); iexact Ha
    iexact HZ
  case read =>
    intro c s'
    iintro ⟨-, HZ, HSI⟩
    icases HZ with ⟨%A, %hAt, HZ⟩
    unfold unscopedRestP
    ihave HZ' := (pointsTo_read_all (restRefsP sig (pcs p).pre (pin pcs a p).spec) (fun b => (c.tc : Thread nD τ).loc b) _ s') $$ [HZ HSI]
    · isplitl [HZ] <;> iassumption
    icases HZ' with ⟨%hZ, HSI⟩
    imodintro
    isplitr
    · ipureintro; exact ⟨A, hAt, hZ⟩
    iexact HSI
  case post =>
    exact fun s h hz => ⟨fun c => ⟨fun w => by simpa only [RDat.familyOf_self] using (h c).1 w, (h c).2.2⟩, hz⟩

end Cert.LaunchTail

end
-- ==== Proof.Frame.lean ====
/-
  Hand-written, untrusted. The run of the whole program at any value instance: it ends, every semaphore reads zero, the seven arguments
  are as launched, and the rest of memory is as `Cert.LaunchTail.Post` says.
-/
module

public import proofs.«01_k».proof.Proof.Oblig
public import proofs.«01_k».proof.Proof.Launch

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

-- the launch's implicit arguments are found by unifying types across plain definitions
set_option backward.isDefEq.respectTransparency.types false in
/-- The run. -/
theorem run_main :
    θ_run defs (onTc (τ := τ) (main (F := F))) ⟨m, fun _ => 0, ρ⟩
      (fun r => Cert.LaunchTail.Post (cfg := cfg0) Pipeline.Prefetch.none (rdat m) (V0 m) [hostOps1].flatten r.2) :=
  Cert.LaunchTail.run (fun q => (cfgs q).toPCfg (Val := Elt F)) (fun q => (cfgs q).toPCfg_adm) 0 launch0.toP defs₀ Variants.none
    (rdat m) m ρ main (body_obligation m) (fun c => (dats m c).share_full fun _ => rfl) (fun _ _ => rfl) (V0 m) [hostOps1]
    sfx_sub sfx_fresh sfx_keeps (hmain m Variants.none) (rdat_A m) (fun _ k => k.elim0)
    (fun c => show _ ⊢ Pipeline.ΦA spec0 c from by iintro ⟨H, -⟩; iexact H) (fun _ => .rfl)

/-- A buffer that neither the later lines write nor a window stages ends at its entry contents. -/
theorem tail_keeps (c : Dev nD) (A) (b : Ref sig .tc)
    (hw : ([hostOps1].flatten : List (HloOp τ sig (Elt F))).Forall fun op => Proc.devRef .tc b ∉ op.writes)
    (ha : ∀ w, Pipeline.arrRef spec0 w ≠ b) :
    StableHlo.after ([hostOps1].flatten : List (HloOp τ sig (Elt F))) (Pipeline.withArrays spec0 c (V0 m c) A) (Proc.devRef .tc b) = V m c b := by
  rw [StableHlo.after_of_forall_not_mem _ _ (List.forall_iff_forall_mem.mp hw), Pipeline.withArrays_of_ne spec0 c _ A b ha]

/-- No later line writes argument 1. -/
theorem tail_arg1 : ([hostOps1].flatten : List (HloOp τ sig (Elt F))).Forall fun op => Proc.devRef .tc main_arg1 ∉ op.writes := by
  simp only [hostOps1, List.flatten_cons, List.flatten_nil, List.append_nil, List.Forall, StableHlo.unary_writes, StableHlo.reshape_writes,
    Finset.mem_singleton]
  repeat' apply And.intro
  all_goals exact StableHlo.devRef_ne_of_ne (by decide)
/-- No later line writes argument 2. -/
theorem tail_arg2 : ([hostOps1].flatten : List (HloOp τ sig (Elt F))).Forall fun op => Proc.devRef .tc main_arg2 ∉ op.writes := by
  simp only [hostOps1, List.flatten_cons, List.flatten_nil, List.append_nil, List.Forall, StableHlo.unary_writes, StableHlo.reshape_writes,
    Finset.mem_singleton]
  repeat' apply And.intro
  all_goals exact StableHlo.devRef_ne_of_ne (by decide)
/-- No later line writes argument 3. -/
theorem tail_arg3 : ([hostOps1].flatten : List (HloOp τ sig (Elt F))).Forall fun op => Proc.devRef .tc main_arg3 ∉ op.writes := by
  simp only [hostOps1, List.flatten_cons, List.flatten_nil, List.append_nil, List.Forall, StableHlo.unary_writes, StableHlo.reshape_writes,
    Finset.mem_singleton]
  repeat' apply And.intro
  all_goals exact StableHlo.devRef_ne_of_ne (by decide)
/-- No later line writes argument 4. -/
theorem tail_arg4 : ([hostOps1].flatten : List (HloOp τ sig (Elt F))).Forall fun op => Proc.devRef .tc main_arg4 ∉ op.writes := by
  simp only [hostOps1, List.flatten_cons, List.flatten_nil, List.append_nil, List.Forall, StableHlo.unary_writes, StableHlo.reshape_writes,
    Finset.mem_singleton]
  repeat' apply And.intro
  all_goals exact StableHlo.devRef_ne_of_ne (by decide)
/-- No later line writes argument 5. -/
theorem tail_arg5 : ([hostOps1].flatten : List (HloOp τ sig (Elt F))).Forall fun op => Proc.devRef .tc main_arg5 ∉ op.writes := by
  simp only [hostOps1, List.flatten_cons, List.flatten_nil, List.append_nil, List.Forall, StableHlo.unary_writes, StableHlo.reshape_writes,
    Finset.mem_singleton]
  repeat' apply And.intro
  all_goals exact StableHlo.devRef_ne_of_ne (by decide)
/-- No later line writes argument 6. -/
theorem tail_arg6 : ([hostOps1].flatten : List (HloOp τ sig (Elt F))).Forall fun op => Proc.devRef .tc main_arg6 ∉ op.writes := by
  simp only [hostOps1, List.flatten_cons, List.flatten_nil, List.append_nil, List.Forall, StableHlo.unary_writes, StableHlo.reshape_writes,
    Finset.mem_singleton]
  repeat' apply And.intro
  all_goals exact StableHlo.devRef_ne_of_ne (by decide)

variable {m}

/-- The seven arguments end as launched. -/
theorem args_kept {s : MemSt nD τ sig (Elt F)}
    (h : Cert.LaunchTail.Post (cfg := cfg0) Pipeline.Prefetch.none (rdat m) (V0 m) [hostOps1].flatten s) (c : Dev nD) :
    s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)
    ∧ s.mem ((c.tc : Thread nD τ).loc main_arg6) = m ((c.tc : Thread nD τ).loc main_arg6) := by
  obtain ⟨harr, A, -, hrest⟩ := h.1 c
  have hr : ∀ b : Ref sig .tc, b ∈ Pipeline.restRefs sig spec0 → b ∈ Pipeline.restRefsP sig Pipeline.Prefetch.none spec0 := fun b hb =>
    Finset.mem_sdiff.mpr ⟨hb, fun hi => by obtain ⟨k, -, -⟩ := Finset.mem_image.mp hi; exact k.elim0⟩
  refine ⟨?_, ?_, ?_, ?_, ?_, ?_, ?_⟩
  · exact (Eq.mp (congrFun ((rdat m c).ArrAt_in 0 rfl _) _) (harr 0)).trans ((rdat_A m c 0).trans (V_main_arg0 m c))
  · exact (hrest main_arg1 (hr _ (Pipeline.mem_restRefs_of main_arg1 (by decide) (by decide)))).trans
      ((tail_keeps m c A main_arg1 tail_arg1 (by exact (by decide : ∀ w, Pipeline.arrRef spec0 w ≠ main_arg1))).trans (V_main_arg1 m c))
  · exact (hrest main_arg2 (hr _ (Pipeline.mem_restRefs_of main_arg2 (by decide) (by decide)))).trans
      ((tail_keeps m c A main_arg2 tail_arg2 (by exact (by decide : ∀ w, Pipeline.arrRef spec0 w ≠ main_arg2))).trans (V_main_arg2 m c))
  · exact (hrest main_arg3 (hr _ (Pipeline.mem_restRefs_of main_arg3 (by decide) (by decide)))).trans
      ((tail_keeps m c A main_arg3 tail_arg3 (by exact (by decide : ∀ w, Pipeline.arrRef spec0 w ≠ main_arg3))).trans (V_main_arg3 m c))
  · exact (hrest main_arg4 (hr _ (Pipeline.mem_restRefs_of main_arg4 (by decide) (by decide)))).trans
      ((tail_keeps m c A main_arg4 tail_arg4 (by exact (by decide : ∀ w, Pipeline.arrRef spec0 w ≠ main_arg4))).trans (V_main_arg4 m c))
  · exact (hrest main_arg5 (hr _ (Pipeline.mem_restRefs_of main_arg5 (by decide) (by decide)))).trans
      ((tail_keeps m c A main_arg5 tail_arg5 (by exact (by decide : ∀ w, Pipeline.arrRef spec0 w ≠ main_arg5))).trans (V_main_arg5 m c))
  · exact (hrest main_arg6 (hr _ (Pipeline.mem_restRefs_of main_arg6 (by decide) (by decide)))).trans
      ((tail_keeps m c A main_arg6 tail_arg6 (by exact (by decide : ∀ w, Pipeline.arrRef spec0 w ≠ main_arg6))).trans (V_main_arg6 m c))

end Cert.KernelIdeal.Hand

end
-- ==== Proof.Entry.lean ====
/-
  Hand-written, untrusted. What the buffers that the launch reads hold when it starts, over the extended reals: the host lines' rearranged
  weights, the anchor offsets and the one-hot matrices, each at an index in terms of the arguments.
-/
module

public import proofs.«01_k».proof.Proof.Owned
public import Idealize.ShloMosaic.Lib.Pointwise
public import Idealize.ShloMosaic.Lib.Claim
public import Idealize.ShloMosaic.Lib.Routing.Ops
public import Idealize.ShloMosaic.Lib.Routing.OpsSet

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem entry_arg0 : V m c main_arg0 = m ((c.tc : Thread nD τ).loc main_arg0) := by
  simp only [V, V0, List.flatten_cons, List.flatten_nil, List.append_nil]
  entry_read
  rfl

/-- The word of pair row `r` of the twelve, as the host lines spell it: rows 0, 2, 4, … then 1, 3, 5, …. -/
def pairRow : IVec S12 32 :=
  concatenate S12 0
    [⟨S6, addi (broadcastInDim S6 ![] bcast_S_S6 (constantI S_ 32 0#32))
        (muli (broadcastInDim S6 ![] bcast_S_S6 (constantI S_ 32 2#32)) (iotaInDim S6 32 0))⟩,
      ⟨S6, addi (broadcastInDim S6 ![] bcast_S_S6 (constantI S_ 32 1#32))
        (muli (broadcastInDim S6 ![] bcast_S_S6 (constantI S_ 32 2#32)) (iotaInDim S6 32 0))⟩]
    concatenates_S6_S6_S12_d0

/-- The start indices of the two row gathers: a negative word is moved up by twelve, and there is none. -/
def pairIdx : IVec S12x1 32 :=
  broadcastInDim S12x1 ![0] bcast_S12_S12x1_0
    (select (cmpi .slt pairRow (broadcastInDim S12 ![] bcast_S_S12 (constantI S_ 32 0#32)))
      (addi pairRow (broadcastInDim S12 ![] bcast_S_S12 (constantI S_ 32 12#32))) pairRow)

/-- The row of the twelve that row `a` of the regrouped weights is. -/
abbrev pairOf (a : Fin 12) : Fin 12 := ⟨if a.val < 6 then 2 * a.val else 2 * (a.val - 6) + 1, by split <;> omega⟩

theorem pairIdx_apply (a : Fin 12) : pairIdx (ix2 a 0) = BitVec.ofNat 32 (pairOf a).val := by
  unfold pairIdx pairRow
  pointwise
  revert a
  decide +kernel

/-- Anchor number `q % 6` as the host lines spell the remainder. -/
def remIdx : IVec S768 32 :=
  let d : IVec S_ 32 := select (cmpi .eq (constantI S_ 32 6#32) (constantI S_ 32 0#32)) (constantI S_ 32 1#32) (constantI S_ 32 6#32)
  let r : IVec S768 32 := Host.remsi (iotaInDim S768 32 0) (broadcastInDim S768 ![] bcast_S_S768 d)
  select
    (andi
      (cmpi .ne (cmpi .slt r (broadcastInDim S768 ![] bcast_S_S768 (constantI S_ 32 0#32)))
        (broadcastInDim S768 ![] bcast_S_S768 (cmpi .slt d (constantI S_ 32 0#32))))
      (cmpi .ne r (broadcastInDim S768 ![] bcast_S_S768 (constantI S_ 32 0#32))))
    (addi r (broadcastInDim S768 ![] bcast_S_S768 d)) r

/-- The word of offset `(s, q)` among the twelve: `2 * (q % 6) + s`. -/
def offRow : IVec S2x768 32 :=
  addi
    (broadcastInDim S2x768 ![0, 1] bcast_S1x768_S2x768_0_1
      (muli (broadcastInDim S1x768 ![] bcast_S_S1x768 (constantI S_ 32 2#32)) (broadcastInDim S1x768 ![1] bcast_S768_S1x768_1 remIdx)))
    (broadcastInDim S2x768 ![0, 1] bcast_S2x1_S2x768_0_1 (broadcastInDim S2x1 ![0] bcast_S2_S2x1_0 (iotaInDim S2 32 0)))

/-- The start indices of the offsets' gather: a negative word is moved up by twelve, and there is none. -/
def offIdx : IVec S2x768x1 32 :=
  broadcastInDim S2x768x1 ![0, 1] bcast_S2x768_S2x768x1_0_1
    (select (cmpi .slt offRow (broadcastInDim S2x768 ![] bcast_S_S2x768 (constantI S_ 32 0#32)))
      (addi offRow (broadcastInDim S2x768 ![] bcast_S_S2x768 (constantI S_ 32 12#32))) offRow)

theorem offIdx_apply (s : Fin 2) (q : Fin 768) : offIdx (ix3 s q 0) = BitVec.ofNat 32 (2 * (q.val % 6) + s.val) := by
  unfold offIdx offRow remIdx
  pointwise
  revert s q
  decide +kernel

/-- The offsets' gather at an index. -/
theorem gather55 {α : Type} (x : S12.Idx → α) (s : Fin 2) (q : Fin 768) :
    Host.gather gather_S12_S2x768x1_S2x768_n_0_n_n_0_2_1 x offIdx (ix2 s q) = x (ix1 ⟨2 * (q.val % 6) + s.val, by omega⟩) := by
  refine (ValueIdx.gather_take_apply (by norm_num) gather_S12_S2x768x1_S2x768_n_0_n_n_0_2_1_wf x offIdx (ix2 s q)).trans ?_
  have e : ValueIdx.takeIdx (ix2 s q) = ix3 s q 0 := by
    funext a; match a with | ⟨0, _⟩ => rfl | ⟨1, _⟩ => rfl | ⟨2, _⟩ => rfl
  refine congrArg x (congrArg ix1 (Fin.ext ?_))
  show min (offIdx (ValueIdx.takeIdx (ix2 s q))).toInt.toNat (12 - 1) = 2 * (q.val % 6) + s.val
  rw [e, offIdx_apply, StableHlo.Predicate.toInt_ofNat_small _ (by omega)]
  omega

theorem entry_v1 (o : Fin 128) (k : Fin 384) : (V m c main_call0_v1 : _) (ix2 o k) = m ((c.tc : Thread nD τ).loc main_arg1) (ix3 o ⟨k.val % 128, by omega⟩ ⟨k.val / 128, by omega⟩) := by
  simp only [V, V0, List.flatten_cons, List.flatten_nil, List.append_nil]
  entry_read
  try simp only [StableHlo.TRef.ofBuf_toBuf]
  try simp only [StableHlo.TRef.toBuf, StableHlo.TRef.ofBuf, StableHlo.TRef.of, cast_eq]
  pointwise

theorem entry_v2 (o : Fin 128) : (V m c main_call0_v2 : _) (ix2 o 0) = m ((c.tc : Thread nD τ).loc main_arg2) (ix1 o) := by
  simp only [V, V0, List.flatten_cons, List.flatten_nil, List.append_nil]
  entry_read
  pointwise

theorem entry_v3 (a : Fin 6) (o : Fin 128) : (V m c main_call0_v3 : _) (ix2 a o) = m ((c.tc : Thread nD τ).loc main_arg3) (ix3 a o 0) := by
  simp only [V, V0, List.flatten_cons, List.flatten_nil, List.append_nil]
  entry_read
  pointwise

theorem entry_v4 (a : Fin 6) : (V m c main_call0_v4 : _) (ix2 a 0) = m ((c.tc : Thread nD τ).loc main_arg4) (ix1 a) := by
  simp only [V, V0, List.flatten_cons, List.flatten_nil, List.append_nil]
  entry_read
  pointwise

theorem entry_v23 (a : Fin 12) (o : Fin 128) : (V m c main_call0_v23 : _) (ix2 a o) = m ((c.tc : Thread nD τ).loc main_arg5) (ix3 (pairOf a) o 0) := by
  simp only [V, V0, List.flatten_cons, List.flatten_nil, List.append_nil]
  entry_read
  try simp only [StableHlo.TRef.ofBuf_toBuf]
  try simp only [StableHlo.TRef.toBuf, StableHlo.TRef.ofBuf, StableHlo.TRef.of, cast_eq]
  pointwise
  exact (Routing.gather_row gather_S12x128_S12x1_S12x128_1_0_n_n_0_1_1128 rfl rfl rfl rfl rfl _ pairIdx a o (pairOf a)
    (pairIdx_apply a) (by norm_num)).trans rfl

theorem entry_v31 (a : Fin 12) : (V m c main_call0_v31 : _) (ix2 a 0) = m ((c.tc : Thread nD τ).loc main_arg6) (ix1 (pairOf a)) := by
  simp only [V, V0, List.flatten_cons, List.flatten_nil, List.append_nil]
  entry_read
  try simp only [StableHlo.TRef.ofBuf_toBuf]
  try simp only [StableHlo.TRef.toBuf, StableHlo.TRef.ofBuf, StableHlo.TRef.of, cast_eq]
  pointwise
  exact Routing.gather_take1 gather_S12_S12x1_S12_n_0_n_n_0_1_1 rfl rfl rfl rfl _ pairIdx a (pairOf a) (pairIdx_apply a) (by norm_num)

theorem entry_v55 (s : Fin 2) (q : Fin 768) : (V m c main_call0_v55 : _) (ix3 s 0 q) = Ideal.ofBits .f32 (lit1 (S2.rowMajor (ix1 s))) * Ideal.ofBits .f32 (lit0 (S6.rowMajor (ix1 ⟨q.val % 6, by omega⟩))) := by
  simp only [V, V0, List.flatten_cons, List.flatten_nil, List.append_nil]
  entry_read
  try simp only [StableHlo.TRef.ofBuf_toBuf]
  try simp only [StableHlo.TRef.toBuf, StableHlo.TRef.ofBuf, StableHlo.TRef.of, cast_eq]
  pointwise
  refine (gather55 _ s q).trans ?_
  pointwise
  have e1 : (2 * (q.val % 6) + s.val) % 2 = s.val := by omega
  have e2 : (2 * (q.val % 6) + s.val) / 2 = q.val % 6 := by omega
  simp only [e1, e2]

theorem entry_v70 (a : Fin 6) (j : Fin 128) (q : Fin 768) : (V m c main_call0_v70 : _) (ix3 a j q) = if q.val = 6 * j.val + a.val then (1 : EReal) else 0 := by
  simp only [V, V0, List.flatten_cons, List.flatten_nil, List.append_nil]
  entry_read
  try simp only [StableHlo.TRef.ofBuf_toBuf]
  try simp only [StableHlo.TRef.toBuf, StableHlo.TRef.ofBuf, StableHlo.TRef.of, cast_eq]
  pointwise
  have e : IntOp.cmpi .eq (BitVec.ofNat 32 q.val) (IntOp.addi (IntOp.muli 6#32 (BitVec.ofNat 32 j.val)) (BitVec.ofNat 32 a.val))
      = if q.val = 6 * j.val + a.val then 1#1 else 0#1 := by
    have e1 : IntOp.addi (IntOp.muli 6#32 (BitVec.ofNat 32 j.val)) (BitVec.ofNat 32 a.val) = BitVec.ofNat 32 (6 * j.val + a.val) := by
      rw [BitVec.ofNat_add, BitVec.ofNat_mul]; rfl
    have e2 : (BitVec.ofNat 32 q.val = BitVec.ofNat 32 (6 * j.val + a.val)) ↔ q.val = 6 * j.val + a.val := by
      rw [← BitVec.toNat_inj, BitVec.toNat_ofNat, BitVec.toNat_ofNat]
      omega
    rw [e1]
    by_cases h : q.val = 6 * j.val + a.val
    · rw [if_pos h, h]; simp [IntOp.cmpi]
    · rw [if_neg h]
      show BitVec.ofBool (BitVec.ofNat 32 q.val == BitVec.ofNat 32 (6 * j.val + a.val)) = 0#1
      rw [beq_eq_false_iff_ne.2 fun g => h (e2.1 g)]; rfl
  rw [e]
  by_cases h : q.val = 6 * j.val + a.val
  · rw [if_pos h, if_pos h]; show (((1#1 : BitVec 1).toNat : ℝ) : EReal) = 1; simp
  · rw [if_neg h, if_neg h]; show (((0#1 : BitVec 1).toNat : ℝ) : EReal) = 0; simp

end Cert.KernelIdeal.Hand

end
-- ==== Proof.Pay.lean ====
/-
  Hand-written, untrusted. What the body's payloads hold at an index, over the extended reals: the hidden layer of one batch, the
  one-hot interleave, the two heads, and the anchors.
-/
module

public import proofs.«01_k».proof.Proof.Gen.KernelIdeal.Skeleton
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The hidden layer -/

/-- The hidden layer: a convolution of width three along the line, its bias, and the relu, spelt with the three taps' weights side by
    side in one row (tap `k` of input channel `p` at `128 k + p`). -/
def hidV (x : Fin 128 → Fin 4096 → EReal) (w : Fin 128 → Fin 384 → EReal) (b : Fin 128 → EReal) (o : Fin 128) (l : Fin 4096) : EReal :=
  max ((∑ p : Fin 128, w o ⟨p.val, by omega⟩ * (if h : 0 < l.val then x p ⟨l.val - 1, by omega⟩ else 0))
    + ((∑ p : Fin 128, w o ⟨128 + p.val, by omega⟩ * x p l)
      + (∑ p : Fin 128, w o ⟨256 + p.val, by omega⟩ * (if h : l.val + 1 < 4096 then x p ⟨l.val + 1, h⟩ else 0))) + b o) 0

/-- A sum over 384 is the sum of the sums over its three thirds. -/
theorem sum_thirds (f : Fin 384 → EReal) :
    ∑ k, f k = (∑ p : Fin 128, f ⟨p.val, by omega⟩) + ((∑ p : Fin 128, f ⟨128 + p.val, by omega⟩) + ∑ p : Fin 128, f ⟨256 + p.val, by omega⟩) := by
  rw [Fin.sum_univ_two_halves 128 256 rfl f, Fin.sum_univ_two_halves 128 128 rfl (fun k : Fin 256 => f ⟨128 + k.val, by omega⟩)]
  simp only [← Nat.add_assoc, Nat.reduceAdd]

/-- The hidden layer's payload at an index. -/
theorem pay6_apply (v0 : Vec Ideal S1x128x4096 .f32) (v9 : Vec Ideal S128x384 .f32) (v13 : Vec Ideal S128x1 .f32) (o : Fin 128) (l : Fin 4096) :
    k0_pay6 (F := Ideal) v0 v9 v13 (ix2 o l)
      = hidV (fun p l => v0 (ix3 0 p l)) (fun o k => v9 (ix2 o k)) (fun o => v13 (ix2 o 0)) o l := by
  pointwise [k0_pay6, hidV]
  rw [sum_thirds]
  congr 2
  refine congrArg₂ _ (Finset.sum_congr rfl fun p _ => ?_) (congrArg₂ _ (Finset.sum_congr rfl fun p _ => ?_) (Finset.sum_congr rfl fun p _ => ?_))
  · rw [dif_pos (show p.val < 128 from p.isLt)]
    by_cases h : 0 < l.val
    · rw [dif_neg (by omega), dif_pos h]
    · rw [dif_pos (by omega), dif_neg h]
  · rw [dif_neg (show ¬ 128 + p.val < 128 by omega), dif_pos (show 128 + p.val - 128 < 128 by omega)]
    simp only [Nat.add_sub_cancel_left]
  · rw [dif_neg (show ¬ 256 + p.val < 128 by omega), dif_neg (show ¬ 256 + p.val - 128 < 128 by omega)]
    have e : 256 + p.val - 128 - 128 = p.val := by omega
    simp only [e]
    by_cases h : l.val + 1 < 4096
    · rw [dif_pos (by omega), dif_pos h]
      simp only [Nat.add_comm 1 l.val]
    · rw [dif_neg (by omega), dif_neg h]

/-! ## The heads -/

/-- One head at channel `ch`: the weighted sum of the hidden layer and the bias. -/
def headV {n : Nat} (h : Fin 128 → Fin 4096 → EReal) (w : Fin n → Fin 128 → EReal) (b : Fin n → EReal) (ch : Fin n) (l : Fin 4096) : EReal :=
  (∑ o : Fin 128, w ch o * h o l) + b ch

/-- The objectness head's payload: the line of 4096 split into 32 rows of 128. -/
theorem pay8_apply (v0 : Vec Ideal S1x128x4096 .f32) (v9 : Vec Ideal S128x384 .f32) (v13 : Vec Ideal S128x1 .f32) (v20 : Vec Ideal S6x128 .f32)
    (v28 : Vec Ideal S6x1 .f32) (ch : Fin 6) (i : Fin 32) (j : Fin 128) :
    k0_pay8 (F := Ideal) v0 v9 v13 v20 v28 (ix3 ch i j)
      = headV (fun o l => k0_pay6 (F := Ideal) v0 v9 v13 (ix2 o l)) (fun ch o => v20 (ix2 ch o)) (fun ch => v28 (ix2 ch 0)) ch
          ⟨128 * i.val + j.val, by omega⟩ := by
  pointwise [k0_pay8, headV]
  simp only [Nat.mul_comm]

/-- The regression head's rows, bias added. -/
theorem pay46_apply (v0 : Vec Ideal S1x128x4096 .f32) (v9 : Vec Ideal S128x384 .f32) (v13 : Vec Ideal S128x1 .f32) (v24 : Vec Ideal S12x128 .f32)
    (v241 : Vec Ideal S12x1 .f32) (ch : Fin 12) (l : Fin 4096) :
    k0_pay46 (F := Ideal) (k0_pay7 v0 v9 v13 v24) v241 (ix2 ch l)
      = headV (fun o l => k0_pay6 (F := Ideal) v0 v9 v13 (ix2 o l)) (fun ch o => v24 (ix2 ch o)) (fun ch => v241 (ix2 ch 0)) ch l := by
  pointwise [k0_pay46, k0_pay7, headV]

/-- The regression's first six rows, split. -/
theorem pay47_apply (v27 : FVec Ideal S12x4096 .f32) (v241 : Vec Ideal S12x1 .f32) (ch : Fin 6) (i : Fin 32) (j : Fin 128) :
    k0_pay47 (F := Ideal) v27 v241 (ix3 ch i j) = k0_pay46 (F := Ideal) v27 v241 (ix2 ⟨ch.val, by omega⟩ ⟨128 * i.val + j.val, by omega⟩) := by
  pointwise [k0_pay47]
  simp only [Nat.mul_comm]

/-- The regression's last six rows, split. -/
theorem pay51_apply (v244 : FVec Ideal S12x4096 .f32) (ch : Fin 6) (i : Fin 32) (j : Fin 128) :
    k0_pay51 (F := Ideal) v244 (ix3 ch i j) = v244 (ix2 ⟨6 + ch.val, by omega⟩ ⟨128 * i.val + j.val, by omega⟩) := by
  pointwise [k0_pay51]
  simp only [Nat.mul_comm]

/-! ## The interleave -/

/-- A one-hot column picks the summand that it marks. -/
theorem sum_onehot (f : Fin 128 → EReal) (q : Fin 768) (ch : Nat) (hch : ch < 6) :
    (∑ j : Fin 128, f j * (if q.val = 6 * j.val + ch then (1 : EReal) else 0)) = if q.val % 6 = ch then f ⟨q.val / 6, by omega⟩ else 0 := by
  by_cases h : q.val % 6 = ch
  · rw [if_pos h, Finset.sum_eq_single (⟨q.val / 6, by omega⟩ : Fin 128)]
    · rw [if_pos (by simp only; omega), mul_one]
    · intro b _ hb
      rw [if_neg (fun e => hb (Fin.ext (by simp only; omega))), mul_zero]
    · intro hb; exact absurd (Finset.mem_univ _) hb
  · rw [if_neg h]
    refine Finset.sum_eq_zero fun j _ => ?_
    rw [if_neg (by omega), mul_zero]

/-- The interleave of six split rows by six one-hot matrices, as the body computes it. -/
def inter (r : FVec Ideal S6x32x128 .bf16) (p0 p1 p2 p3 p4 p5 : Vec Ideal S1x128x768 .bf16) : FVec Ideal S32x768 .f32 :=
  k0_pay11 (F := Ideal) r (shapeCast S32x128 (extractStridedSlice S1x32x128 ![0, 0, 0] r slices_S6x32x128_o0_0_0_S1x32x128) shapeCasts_S1x32x128_S32x128)
    (k0_pay10 p0) p1 p2 p3 p4 p5

/-- A matrix is the one-hot matrix of channel `ch`. -/
def OneHot (ch : Nat) (p : Vec Ideal S1x128x768 .bf16) : Prop :=
  ∀ (j : Fin 128) (q : Fin 768), p (ix3 0 j q) = if q.val = 6 * j.val + ch then (1 : EReal) else 0

/-- The interleave at an index: column `q` holds channel `q mod 6` of position `q / 6`. -/
theorem inter_apply (r : FVec Ideal S6x32x128 .bf16) {p0 p1 p2 p3 p4 p5 : Vec Ideal S1x128x768 .bf16}
    (h0 : OneHot 0 p0) (h1 : OneHot 1 p1) (h2 : OneHot 2 p2) (h3 : OneHot 3 p3) (h4 : OneHot 4 p4) (h5 : OneHot 5 p5) (i : Fin 32) (q : Fin 768) :
    inter r p0 p1 p2 p3 p4 p5 (ix2 i q) = r (ix3 ⟨q.val % 6, by omega⟩ i ⟨q.val / 6, by omega⟩) := by
  unfold inter
  pointwise [k0_pay11, k0_pay10]
  simp only [h0 _ q, h1 _ q, h2 _ q, h3 _ q, h4 _ q, h5 _ q]
  rw [sum_onehot _ q 0 (by decide), sum_onehot _ q 1 (by decide), sum_onehot _ q 2 (by decide), sum_onehot _ q 3 (by decide),
    sum_onehot _ q 4 (by decide), sum_onehot _ q 5 (by decide)]
  obtain ⟨k, hk⟩ : ∃ k : Fin 6, q.val % 6 = k.val := ⟨⟨q.val % 6, by omega⟩, rfl⟩
  simp only [hk]
  fin_vals k with hv <;> simp [hv]
  all_goals (refine congrArg r ?_; congr 1)

/-! ## The anchors -/

/-- Floor division by six of a column's word, as the body spells it. -/
theorem word_div6 : ∀ q : Fin 768,
    Scalar.select
      (IntOp.andi
        (IntOp.cmpi CmpIPredicate.ne
          (IntOp.subi (BitVec.setWidth 32 (IntOp.cmpi CmpIPredicate.sgt (BitVec.ofNat 32 q.val) 0#32))
            (BitVec.setWidth 32 (IntOp.cmpi CmpIPredicate.slt (BitVec.ofNat 32 q.val) 0#32)))
          (Scalar.subi (Scalar.extui (Scalar.cmpi CmpIPredicate.sgt 6#32 0#32)) (Scalar.extui (Scalar.cmpi CmpIPredicate.slt 6#32 0#32))))
        (IntOp.cmpi CmpIPredicate.ne (IntOp.remsi ArithUnit.vector (BitVec.ofNat 32 q.val) 6#32) 0#32))
      (IntOp.subi (IntOp.divsi ArithUnit.vector (BitVec.ofNat 32 q.val) 6#32) 1#32)
      (IntOp.divsi ArithUnit.vector (BitVec.ofNat 32 q.val) 6#32) = BitVec.ofNat 32 (q.val / 6) := by
  decide +kernel

/-- The centre's word at row `i`, column `q`. -/
theorem pay3_apply (i : Fin 32) (q : Fin 768) :
    k0_pay3 (F := Ideal) (ix2 i q) = FloatOps.sitofp (F := Ideal) .f32 (BitVec.ofNat 32 (128 * i.val + q.val / 6)) + Ideal.ofBits .f32 0x3F000000#32 := by
  pointwise [k0_pay3]
  rw [word_div6 q, BitVec.ofNat_add, BitVec.ofNat_mul]
  rfl

/-- The starts' (ends') payload at an index. -/
theorem pay4_apply (x : Vec Ideal S1x1x768 .f32) (i : Fin 32) (q : Fin 768) :
    k0_pay4 (F := Ideal) x (ix3 0 i q) = k0_pay3 (F := Ideal) (ix2 i q) + x (ix3 0 0 q) := by
  pointwise [k0_pay4]

theorem pay2_apply (x : Vec Ideal S1x1x768 .f32) (i : Fin 32) (q : Fin 768) :
    k0_pay2 (F := Ideal) (k0_pay3 (F := Ideal)) (k0_pay5 x) (ix3 0 i q) = k0_pay3 (F := Ideal) (ix2 i q) + x (ix3 0 0 q) := by
  pointwise [k0_pay2, k0_pay5]

end Cert.KernelIdeal.Hand

end
-- ==== Proof.Chunks.lean ====
/-
  Hand-written, untrusted. The objectness block is written one chunk of 768 lanes of one row at a time: a list of such pieces that fills
  the first chunks of two neighbouring rows, and what the block holds once all the chunks of both rows are filled.
-/
module

public import proofs.«01_k».proof.Proof.Owned
public import proofs.«01_k».proof.Proof.Pay
public import Idealize.ShloMosaic.Lib.WholeRead
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## Rows filled chunk by chunk -/

/-- Row `r` with the rows of `V0` side by side, any other row with those of `V1`. -/
def fill (r : ℕ) (V0 V1 : FVec Ideal S32x768 .f32) (y : S1x8x24576.Idx) : Elt Ideal .f32 :=
  (if (y 1).val = r then V0 else V1)
    (ix2 ⟨(y 2).val / 768, by have := (y 2).isLt; change _ < 24576 at this; omega⟩ ⟨(y 2).val % 768, by omega⟩)

/-- The list `L` of pieces, newest first, fills the first `k0` chunks of row `r` with the rows of `V0` and the first `k1` chunks of row
    `r + 1` with the rows of `V1`, and touches nothing else. -/
structure Filled (r : ℕ) (V0 V1 : FVec Ideal S32x768 .f32) (k0 k1 : ℕ) (L : List (View.Piece (Elt Ideal) S1x8x24576 .f32)) : Prop where
  val : ∀ p ∈ L, ∀ x, p.2 x = fill r V0 V1 (p.1.emb x)
  row : ∀ p ∈ L, ∀ y ∈ p.1.set, (y 1).val = r ∨ (y 1).val = r + 1
  cov0 : ∀ y : S1x8x24576.Idx, (y 1).val = r → (y 2).val < 768 * k0 → ∃ p ∈ L, y ∈ p.1.set
  cov1 : ∀ y : S1x8x24576.Idx, (y 1).val = r + 1 → (y 2).val < 768 * k1 → ∃ p ∈ L, y ∈ p.1.set

theorem Filled.nil (r : ℕ) (V0 V1 : FVec Ideal S32x768 .f32) : Filled r V0 V1 0 0 [] :=
  ⟨fun p h => absurd h List.not_mem_nil, fun p h => absurd h List.not_mem_nil, fun y _ h => absurd h (by omega), fun y _ h => absurd h (by omega)⟩

/-- Where a chunk's rectangle lies. -/
theorem mem_chunk {off : Fin 3 → ℕ} {inb} {r k : ℕ} (hoff : off = ![0, r, 768 * k]) (y : S1x8x24576.Idx) :
    y ∈ (Rect.unit (s := S1x8x24576) off S1x1x768.size inb).set ↔ (y 1).val = r ∧ 768 * k ≤ (y 2).val ∧ (y 2).val < 768 * (k + 1) := by
  subst hoff
  rw [Rect.mem_set_unit]
  constructor
  · intro h
    have h1 := h 1
    have h2 := h 2
    change r ≤ (y 1).val ∧ (y 1).val < r + 1 at h1
    change 768 * k ≤ (y 2).val ∧ (y 2).val < 768 * k + 768 at h2
    omega
  · rintro ⟨h1, h2, h3⟩ a
    match a with
    | 0 =>
      have := (y 0).isLt
      change (y 0).val < 1 at this
      exact ⟨Nat.zero_le _, by show (y 0).val < 0 + 1; omega⟩
    | 1 => exact ⟨by show r ≤ (y 1).val; omega, by show (y 1).val < r + 1; omega⟩
    | 2 => exact ⟨by show 768 * k ≤ (y 2).val; omega, by show (y 2).val < 768 * k + 768; omega⟩

/-- A chunk's payload agrees with its row of `V`. -/
theorem chunk_val {off : Fin 3 → ℕ} {inb} {r k : ℕ} (hoff : off = ![0, r, 768 * k]) {V : FVec Ideal S32x768 .f32} {h : S32x768.Slices ![k, 0] S1x768}
    (r0 : ℕ) (V0 V1 : FVec Ideal S32x768 .f32) (hV : (if r = r0 then V0 else V1) = V) (x : S1x1x768.Idx) :
    shapeCast S1x1x768 (extractStridedSlice S1x768 ![k, 0] V h) shapeCasts_S1x768_S1x1x768 x
      = fill r0 V0 V1 ((Rect.unit (s := S1x8x24576) off S1x1x768.size inb).emb x) := by
  subst hoff
  obtain ⟨a, b, q, rfl⟩ : ∃ (a : Fin 1) (b : Fin 1) (q : Fin 768), x = ix3 a b q := ⟨x 0, x 1, x 2, eq_ix3 x⟩
  have e1 : (((Rect.unit (s := S1x8x24576) ![0, r, 768 * k] S1x1x768.size inb).emb (ix3 a b q)) 1).val = r := by
    show r + 1 * b.val = r
    omega
  have e2 : (((Rect.unit (s := S1x8x24576) ![0, r, 768 * k] S1x1x768.size inb).emb (ix3 a b q)) 2).val = 768 * k + q.val := by
    show 768 * k + 1 * q.val = _
    omega
  simp only [fill, e1, e2, hV]
  pointwise
  refine congrArg V ?_
  congr 1 <;> refine Fin.ext ?_ <;> simp only <;> omega

theorem Filled.step0 {r k : ℕ} {V0 V1 : FVec Ideal S32x768 .f32} {off : Fin 3 → ℕ} {inb} {L} {Pl : S1x1x768.Idx → EReal}
    [o : ClosedOff off] (hform : o.form = ![0, r, 768 * k]) (hP : ∃ h, Pl = shapeCast S1x1x768 (extractStridedSlice S1x768 ![k, 0] V0 h) shapeCasts_S1x768_S1x1x768)
    (H : Filled r V0 V1 k 0 L) :
    Filled r V0 V1 (k + 1) 0 (⟨Rect.unit (s := S1x8x24576) off S1x1x768.size inb, Pl⟩ :: L) := by
  obtain ⟨h, rfl⟩ := hP
  have hoff := o.eq.trans hform
  refine ⟨List.forall_mem_cons.2 ⟨fun x => chunk_val (inb := inb) (h := h) hoff r V0 V1 (if_pos rfl) x, H.val⟩,
    List.forall_mem_cons.2 ⟨fun y hy => Or.inl ((mem_chunk (inb := inb) hoff y).1 hy).1, H.row⟩, fun y h1 h2 => ?_, fun y _ h => absurd h (by omega)⟩
  by_cases hk : (y 2).val < 768 * k
  · obtain ⟨p, hp, hy⟩ := H.cov0 y h1 hk
    exact ⟨p, List.mem_cons_of_mem _ hp, hy⟩
  · exact ⟨_, List.mem_cons_self, (mem_chunk (inb := inb) hoff y).2 ⟨h1, by omega, h2⟩⟩

theorem Filled.step1 {r k j : ℕ} {V0 V1 : FVec Ideal S32x768 .f32} {off : Fin 3 → ℕ} {inb} {L} {Pl : S1x1x768.Idx → EReal}
    [o : ClosedOff off] (hform : o.form = ![0, r + 1, 768 * k]) (hP : ∃ h, Pl = shapeCast S1x1x768 (extractStridedSlice S1x768 ![k, 0] V1 h) shapeCasts_S1x768_S1x1x768)
    (H : Filled r V0 V1 j k L) :
    Filled r V0 V1 j (k + 1) (⟨Rect.unit (s := S1x8x24576) off S1x1x768.size inb, Pl⟩ :: L) := by
  obtain ⟨h, rfl⟩ := hP
  have hoff := o.eq.trans hform
  refine ⟨List.forall_mem_cons.2 ⟨fun x => chunk_val (inb := inb) (h := h) hoff r V0 V1 (if_neg (by omega)) x, H.val⟩,
    List.forall_mem_cons.2 ⟨fun y hy => Or.inr ((mem_chunk (inb := inb) hoff y).1 hy).1, H.row⟩, fun y h1 h2 => ?_, fun y h1 h2 => ?_⟩
  · obtain ⟨p, hp, hy⟩ := H.cov0 y h1 h2
    exact ⟨p, List.mem_cons_of_mem _ hp, hy⟩
  by_cases hk : (y 2).val < 768 * k
  · obtain ⟨p, hp, hy⟩ := H.cov1 y h1 hk
    exact ⟨p, List.mem_cons_of_mem _ hp, hy⟩
  · exact ⟨_, List.mem_cons_self, (mem_chunk (inb := inb) hoff y).2 ⟨h1, by omega, h2⟩⟩

end Cert.KernelIdeal.Hand

end
-- ==== Proof.Loads.lean ====
/-
  Hand-written, untrusted. What the body reads of its operands, and the vectors that it stores, at a grid point, over the extended reals.
-/
module

public import proofs.«01_k».proof.Proof.Chunks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Operands

variable (c : Dev nD) (i : grid0.Coords)
    (arg1 : Memref sig .tc .vmem S2x128x4096 .f32) (harg1 : arg1.IsWhole)
    (arg2 : Memref sig .tc .vmem S128x384 .f32) (harg2 : arg2.IsWhole)
    (arg3 : Memref sig .tc .vmem S128x1 .f32) (harg3 : arg3.IsWhole)
    (arg4 : Memref sig .tc .vmem S6x128 .f32) (harg4 : arg4.IsWhole)
    (arg5 : Memref sig .tc .vmem S6x1 .f32) (harg5 : arg5.IsWhole)
    (arg6 : Memref sig .tc .vmem S12x128 .f32) (harg6 : arg6.IsWhole)
    (arg7 : Memref sig .tc .vmem S12x1 .f32) (harg7 : arg7.IsWhole)
    (arg8 : Memref sig .tc .vmem S2x1x768 .f32) (harg8 : arg8.IsWhole)
    (arg9 : Memref sig .tc .vmem S6x128x768 .bf16) (harg9 : arg9.IsWhole)
    (arg10 : Memref sig .tc .vmem S1x8x24576 .f32) (harg10 : arg10.IsWhole)
    (arg11 : Memref sig .tc .vmem S2x2x32x768 .f32) (harg11 : arg11.IsWhole)
    (arg12 : Memref sig .tc .vmem S2x32x768 .f32) (harg12 : arg12.IsWhole)
    (X1 : S2x128x4096.Idx → Elt Ideal .f32) (X2 : S128x384.Idx → Elt Ideal .f32) (X3 : S128x1.Idx → Elt Ideal .f32) (X4 : S6x128.Idx → Elt Ideal .f32) (X5 : S6x1.Idx → Elt Ideal .f32) (X6 : S12x128.Idx → Elt Ideal .f32) (X7 : S12x1.Idx → Elt Ideal .f32) (X8 : S2x1x768.Idx → Elt Ideal .f32) (X9 : S6x128x768.Idx → Elt Ideal .bf16)

/-! ## The loads -/

/-- The load `ld_x0` reads its operand's block. -/
def ld_x0 : Vec Ideal S1x128x4096 .f32 := View.readAt (Elt Ideal) arg1.view (Rect.unit (s := S2x128x4096) ![0, 0, 0] S1x128x4096.size inb_S2x128x4096_S1x128x4096_0_0_0).toLoadRect (harg1.unread X1)

theorem ld_x0_apply (b : Fin 128) (c : Fin 4096) : ld_x0 arg1 harg1 X1 (ix3 0 b c) = X1 (ix3 0 b c) := by
  unfold ld_x0
  rw [harg1.readAt_unread]
  refine congrArg X1 (funext fun d => Fin.ext ?_)
  match d with
  | 0 => exact (rfl)
  | 1 => exact ((by show 0 + 1 * b.val = b.val; omega))
  | 2 => exact ((by show 0 + 1 * c.val = c.val; omega))

/-- The load `ld_x1` reads its operand's block. -/
def ld_x1 : Vec Ideal S1x128x4096 .f32 := View.readAt (Elt Ideal) arg1.view (Rect.unit (s := S2x128x4096) ![1, 0, 0] S1x128x4096.size inb_S2x128x4096_S1x128x4096_1_0_0).toLoadRect (harg1.unread X1)

theorem ld_x1_apply (b : Fin 128) (c : Fin 4096) : ld_x1 arg1 harg1 X1 (ix3 0 b c) = X1 (ix3 1 b c) := by
  unfold ld_x1
  rw [harg1.readAt_unread]
  refine congrArg X1 (funext fun d => Fin.ext ?_)
  match d with
  | 0 => exact (rfl)
  | 1 => exact ((by show 0 + 1 * b.val = b.val; omega))
  | 2 => exact ((by show 0 + 1 * c.val = c.val; omega))

/-- The load `ld_w2` reads its operand's block. -/
def ld_w2 : Vec Ideal S128x384 .f32 := View.readAt (Elt Ideal) arg2.view (Rect.unit (s := S128x384) ![0, 0] S128x384.size inb_S128x384_S128x384_0_0).toLoadRect (harg2.unread X2)

theorem ld_w2_apply (a : Fin 128) (b : Fin 384) : ld_w2 arg2 harg2 X2 (ix2 a b) = X2 (ix2 a b) := by
  unfold ld_w2
  rw [harg2.readAt_unread]
  refine congrArg X2 (funext fun d => Fin.ext ?_)
  match d with
  | 0 => exact ((by show 0 + 1 * a.val = a.val; omega))
  | 1 => exact ((by show 0 + 1 * b.val = b.val; omega))

/-- The load `ld_cb` reads its operand's block. -/
def ld_cb : Vec Ideal S128x1 .f32 := View.readAt (Elt Ideal) arg3.view (Rect.unit (s := S128x1) ![0, 0] S128x1.size inb_S128x1_S128x1_0_0).toLoadRect (harg3.unread X3)

theorem ld_cb_apply (a : Fin 128) (b : Fin 1) : ld_cb arg3 harg3 X3 (ix2 a b) = X3 (ix2 a b) := by
  unfold ld_cb
  rw [harg3.readAt_unread]
  refine congrArg X3 (funext fun d => Fin.ext ?_)
  match d with
  | 0 => exact ((by show 0 + 1 * a.val = a.val; omega))
  | 1 => exact ((by show 0 + 1 * b.val = b.val; omega))

/-- The load `ld_ow` reads its operand's block. -/
def ld_ow : Vec Ideal S6x128 .f32 := View.readAt (Elt Ideal) arg4.view (Rect.unit (s := S6x128) ![0, 0] S6x128.size inb_S6x128_S6x128_0_0).toLoadRect (harg4.unread X4)

theorem ld_ow_apply (a : Fin 6) (b : Fin 128) : ld_ow arg4 harg4 X4 (ix2 a b) = X4 (ix2 a b) := by
  unfold ld_ow
  rw [harg4.readAt_unread]
  refine congrArg X4 (funext fun d => Fin.ext ?_)
  match d with
  | 0 => exact ((by show 0 + 1 * a.val = a.val; omega))
  | 1 => exact ((by show 0 + 1 * b.val = b.val; omega))

/-- The load `ld_ob` reads its operand's block. -/
def ld_ob : Vec Ideal S6x1 .f32 := View.readAt (Elt Ideal) arg5.view (Rect.unit (s := S6x1) ![0, 0] S6x1.size inb_S6x1_S6x1_0_0).toLoadRect (harg5.unread X5)

theorem ld_ob_apply (a : Fin 6) (b : Fin 1) : ld_ob arg5 harg5 X5 (ix2 a b) = X5 (ix2 a b) := by
  unfold ld_ob
  rw [harg5.readAt_unread]
  refine congrArg X5 (funext fun d => Fin.ext ?_)
  match d with
  | 0 => exact ((by show 0 + 1 * a.val = a.val; omega))
  | 1 => exact ((by show 0 + 1 * b.val = b.val; omega))

/-- The load `ld_rw` reads its operand's block. -/
def ld_rw : Vec Ideal S12x128 .f32 := View.readAt (Elt Ideal) arg6.view (Rect.unit (s := S12x128) ![0, 0] S12x128.size inb_S12x128_S12x128_0_0).toLoadRect (harg6.unread X6)

theorem ld_rw_apply (a : Fin 12) (b : Fin 128) : ld_rw arg6 harg6 X6 (ix2 a b) = X6 (ix2 a b) := by
  unfold ld_rw
  rw [harg6.readAt_unread]
  refine congrArg X6 (funext fun d => Fin.ext ?_)
  match d with
  | 0 => exact ((by show 0 + 1 * a.val = a.val; omega))
  | 1 => exact ((by show 0 + 1 * b.val = b.val; omega))

/-- The load `ld_rb` reads its operand's block. -/
def ld_rb : Vec Ideal S12x1 .f32 := View.readAt (Elt Ideal) arg7.view (Rect.unit (s := S12x1) ![0, 0] S12x1.size inb_S12x1_S12x1_0_0).toLoadRect (harg7.unread X7)

theorem ld_rb_apply (a : Fin 12) (b : Fin 1) : ld_rb arg7 harg7 X7 (ix2 a b) = X7 (ix2 a b) := by
  unfold ld_rb
  rw [harg7.readAt_unread]
  refine congrArg X7 (funext fun d => Fin.ext ?_)
  match d with
  | 0 => exact ((by show 0 + 1 * a.val = a.val; omega))
  | 1 => exact ((by show 0 + 1 * b.val = b.val; omega))

/-- The load `ld_p0` reads its operand's block. -/
def ld_p0 : Vec Ideal S1x128x768 .bf16 := View.readAt (Elt Ideal) arg9.view (Rect.unit (s := S6x128x768) ![0, 0, 0] S1x128x768.size inb_S6x128x768_S1x128x768_0_0_0).toLoadRect (harg9.unread X9)

theorem ld_p0_apply (b : Fin 128) (c : Fin 768) : ld_p0 arg9 harg9 X9 (ix3 0 b c) = X9 (ix3 0 b c) := by
  unfold ld_p0
  rw [harg9.readAt_unread]
  refine congrArg X9 (funext fun d => Fin.ext ?_)
  match d with
  | 0 => exact (rfl)
  | 1 => exact ((by show 0 + 1 * b.val = b.val; omega))
  | 2 => exact ((by show 0 + 1 * c.val = c.val; omega))

/-- The load `ld_p1` reads its operand's block. -/
def ld_p1 : Vec Ideal S1x128x768 .bf16 := View.readAt (Elt Ideal) arg9.view (Rect.unit (s := S6x128x768) ![1, 0, 0] S1x128x768.size inb_S6x128x768_S1x128x768_1_0_0).toLoadRect (harg9.unread X9)

theorem ld_p1_apply (b : Fin 128) (c : Fin 768) : ld_p1 arg9 harg9 X9 (ix3 0 b c) = X9 (ix3 1 b c) := by
  unfold ld_p1
  rw [harg9.readAt_unread]
  refine congrArg X9 (funext fun d => Fin.ext ?_)
  match d with
  | 0 => exact (rfl)
  | 1 => exact ((by show 0 + 1 * b.val = b.val; omega))
  | 2 => exact ((by show 0 + 1 * c.val = c.val; omega))

/-- The load `ld_p2` reads its operand's block. -/
def ld_p2 : Vec Ideal S1x128x768 .bf16 := View.readAt (Elt Ideal) arg9.view (Rect.unit (s := S6x128x768) ![2, 0, 0] S1x128x768.size inb_S6x128x768_S1x128x768_2_0_0).toLoadRect (harg9.unread X9)

theorem ld_p2_apply (b : Fin 128) (c : Fin 768) : ld_p2 arg9 harg9 X9 (ix3 0 b c) = X9 (ix3 2 b c) := by
  unfold ld_p2
  rw [harg9.readAt_unread]
  refine congrArg X9 (funext fun d => Fin.ext ?_)
  match d with
  | 0 => exact (rfl)
  | 1 => exact ((by show 0 + 1 * b.val = b.val; omega))
  | 2 => exact ((by show 0 + 1 * c.val = c.val; omega))

/-- The load `ld_p3` reads its operand's block. -/
def ld_p3 : Vec Ideal S1x128x768 .bf16 := View.readAt (Elt Ideal) arg9.view (Rect.unit (s := S6x128x768) ![3, 0, 0] S1x128x768.size inb_S6x128x768_S1x128x768_3_0_0).toLoadRect (harg9.unread X9)

theorem ld_p3_apply (b : Fin 128) (c : Fin 768) : ld_p3 arg9 harg9 X9 (ix3 0 b c) = X9 (ix3 3 b c) := by
  unfold ld_p3
  rw [harg9.readAt_unread]
  refine congrArg X9 (funext fun d => Fin.ext ?_)
  match d with
  | 0 => exact (rfl)
  | 1 => exact ((by show 0 + 1 * b.val = b.val; omega))
  | 2 => exact ((by show 0 + 1 * c.val = c.val; omega))

/-- The load `ld_p4` reads its operand's block. -/
def ld_p4 : Vec Ideal S1x128x768 .bf16 := View.readAt (Elt Ideal) arg9.view (Rect.unit (s := S6x128x768) ![4, 0, 0] S1x128x768.size inb_S6x128x768_S1x128x768_4_0_0).toLoadRect (harg9.unread X9)

theorem ld_p4_apply (b : Fin 128) (c : Fin 768) : ld_p4 arg9 harg9 X9 (ix3 0 b c) = X9 (ix3 4 b c) := by
  unfold ld_p4
  rw [harg9.readAt_unread]
  refine congrArg X9 (funext fun d => Fin.ext ?_)
  match d with
  | 0 => exact (rfl)
  | 1 => exact ((by show 0 + 1 * b.val = b.val; omega))
  | 2 => exact ((by show 0 + 1 * c.val = c.val; omega))

/-- The load `ld_p5` reads its operand's block. -/
def ld_p5 : Vec Ideal S1x128x768 .bf16 := View.readAt (Elt Ideal) arg9.view (Rect.unit (s := S6x128x768) ![5, 0, 0] S1x128x768.size inb_S6x128x768_S1x128x768_5_0_0).toLoadRect (harg9.unread X9)

theorem ld_p5_apply (b : Fin 128) (c : Fin 768) : ld_p5 arg9 harg9 X9 (ix3 0 b c) = X9 (ix3 5 b c) := by
  unfold ld_p5
  rw [harg9.readAt_unread]
  refine congrArg X9 (funext fun d => Fin.ext ?_)
  match d with
  | 0 => exact (rfl)
  | 1 => exact ((by show 0 + 1 * b.val = b.val; omega))
  | 2 => exact ((by show 0 + 1 * c.val = c.val; omega))

/-- The load `ld_xa0` reads its operand's block. -/
def ld_xa0 : Vec Ideal S1x1x768 .f32 := View.readAt (Elt Ideal) arg8.view (Rect.unit (s := S2x1x768) ![0, 0, 0] S1x1x768.size inb_S2x1x768_S1x1x768_0_0_0).toLoadRect (harg8.unread X8)

theorem ld_xa0_apply (b : Fin 1) (c : Fin 768) : ld_xa0 arg8 harg8 X8 (ix3 0 b c) = X8 (ix3 0 b c) := by
  unfold ld_xa0
  rw [harg8.readAt_unread]
  refine congrArg X8 (funext fun d => Fin.ext ?_)
  match d with
  | 0 => exact (rfl)
  | 1 => exact ((by show 0 + 1 * b.val = b.val; omega))
  | 2 => exact ((by show 0 + 1 * c.val = c.val; omega))

/-- The load `ld_xa1` reads its operand's block. -/
def ld_xa1 : Vec Ideal S1x1x768 .f32 := View.readAt (Elt Ideal) arg8.view (Rect.unit (s := S2x1x768) ![1, 0, 0] S1x1x768.size inb_S2x1x768_S1x1x768_1_0_0).toLoadRect (harg8.unread X8)

theorem ld_xa1_apply (b : Fin 1) (c : Fin 768) : ld_xa1 arg8 harg8 X8 (ix3 0 b c) = X8 (ix3 1 b c) := by
  unfold ld_xa1
  rw [harg8.readAt_unread]
  refine congrArg X8 (funext fun d => Fin.ext ?_)
  match d with
  | 0 => exact (rfl)
  | 1 => exact ((by show 0 + 1 * b.val = b.val; omega))
  | 2 => exact ((by show 0 + 1 * c.val = c.val; omega))

/-! ## The vectors that the body stores -/

/-- Batch 0's objectness, interleaved. -/
def objB0 : FVec Ideal S32x768 .f32 :=
  inter (k0_pay8 (ld_x0 arg1 harg1 X1) (ld_w2 arg2 harg2 X2) (ld_cb arg3 harg3 X3) (ld_ow arg4 harg4 X4) (ld_ob arg5 harg5 X5)) (ld_p0 arg9 harg9 X9) (ld_p1 arg9 harg9 X9) (ld_p2 arg9 harg9 X9) (ld_p3 arg9 harg9 X9) (ld_p4 arg9 harg9 X9) (ld_p5 arg9 harg9 X9)

/-- Batch 0's regression starts, interleaved. -/
def regS0 : FVec Ideal S32x768 .f32 :=
  inter (k0_pay47 (k0_pay7 (ld_x0 arg1 harg1 X1) (ld_w2 arg2 harg2 X2) (ld_cb arg3 harg3 X3) (ld_rw arg6 harg6 X6)) (ld_rb arg7 harg7 X7)) (ld_p0 arg9 harg9 X9) (ld_p1 arg9 harg9 X9) (ld_p2 arg9 harg9 X9) (ld_p3 arg9 harg9 X9) (ld_p4 arg9 harg9 X9) (ld_p5 arg9 harg9 X9)

/-- Batch 0's regression ends, interleaved. -/
def regE0 : FVec Ideal S32x768 .f32 :=
  inter (k0_pay51 (k0_pay46 (k0_pay7 (ld_x0 arg1 harg1 X1) (ld_w2 arg2 harg2 X2) (ld_cb arg3 harg3 X3) (ld_rw arg6 harg6 X6)) (ld_rb arg7 harg7 X7))) (ld_p0 arg9 harg9 X9) (ld_p1 arg9 harg9 X9) (ld_p2 arg9 harg9 X9) (ld_p3 arg9 harg9 X9) (ld_p4 arg9 harg9 X9) (ld_p5 arg9 harg9 X9)

/-- Batch 1's objectness, interleaved. -/
def objB1 : FVec Ideal S32x768 .f32 :=
  inter (k0_pay8 (ld_x1 arg1 harg1 X1) (ld_w2 arg2 harg2 X2) (ld_cb arg3 harg3 X3) (ld_ow arg4 harg4 X4) (ld_ob arg5 harg5 X5)) (ld_p0 arg9 harg9 X9) (ld_p1 arg9 harg9 X9) (ld_p2 arg9 harg9 X9) (ld_p3 arg9 harg9 X9) (ld_p4 arg9 harg9 X9) (ld_p5 arg9 harg9 X9)

/-- Batch 1's regression starts, interleaved. -/
def regS1 : FVec Ideal S32x768 .f32 :=
  inter (k0_pay47 (k0_pay7 (ld_x1 arg1 harg1 X1) (ld_w2 arg2 harg2 X2) (ld_cb arg3 harg3 X3) (ld_rw arg6 harg6 X6)) (ld_rb arg7 harg7 X7)) (ld_p0 arg9 harg9 X9) (ld_p1 arg9 harg9 X9) (ld_p2 arg9 harg9 X9) (ld_p3 arg9 harg9 X9) (ld_p4 arg9 harg9 X9) (ld_p5 arg9 harg9 X9)

/-- Batch 1's regression ends, interleaved. -/
def regE1 : FVec Ideal S32x768 .f32 :=
  inter (k0_pay51 (k0_pay46 (k0_pay7 (ld_x1 arg1 harg1 X1) (ld_w2 arg2 harg2 X2) (ld_cb arg3 harg3 X3) (ld_rw arg6 harg6 X6)) (ld_rb arg7 harg7 X7))) (ld_p0 arg9 harg9 X9) (ld_p1 arg9 harg9 X9) (ld_p2 arg9 harg9 X9) (ld_p3 arg9 harg9 X9) (ld_p4 arg9 harg9 X9) (ld_p5 arg9 harg9 X9)

end Operands

end Cert.KernelIdeal.Hand

end
-- ==== Proof.Vals.lean ====
/-
  Hand-written, untrusted. The pieces that the body writes at a grid point are chunks of the vectors that it stores.
-/
module

public import proofs.«01_k».proof.Proof.Loads

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Operands

variable (c : Dev nD) (i : grid0.Coords)
    (arg1 : Memref sig .tc .vmem S2x128x4096 .f32) (harg1 : arg1.IsWhole)
    (arg2 : Memref sig .tc .vmem S128x384 .f32) (harg2 : arg2.IsWhole)
    (arg3 : Memref sig .tc .vmem S128x1 .f32) (harg3 : arg3.IsWhole)
    (arg4 : Memref sig .tc .vmem S6x128 .f32) (harg4 : arg4.IsWhole)
    (arg5 : Memref sig .tc .vmem S6x1 .f32) (harg5 : arg5.IsWhole)
    (arg6 : Memref sig .tc .vmem S12x128 .f32) (harg6 : arg6.IsWhole)
    (arg7 : Memref sig .tc .vmem S12x1 .f32) (harg7 : arg7.IsWhole)
    (arg8 : Memref sig .tc .vmem S2x1x768 .f32) (harg8 : arg8.IsWhole)
    (arg9 : Memref sig .tc .vmem S6x128x768 .bf16) (harg9 : arg9.IsWhole)
    (arg10 : Memref sig .tc .vmem S1x8x24576 .f32) (harg10 : arg10.IsWhole)
    (arg11 : Memref sig .tc .vmem S2x2x32x768 .f32) (harg11 : arg11.IsWhole)
    (arg12 : Memref sig .tc .vmem S2x32x768 .f32) (harg12 : arg12.IsWhole)
    (X1 : S2x128x4096.Idx → Elt Ideal .f32) (X2 : S128x384.Idx → Elt Ideal .f32) (X3 : S128x1.Idx → Elt Ideal .f32) (X4 : S6x128.Idx → Elt Ideal .f32) (X5 : S6x1.Idx → Elt Ideal .f32) (X6 : S12x128.Idx → Elt Ideal .f32) (X7 : S12x1.Idx → Elt Ideal .f32) (X8 : S2x1x768.Idx → Elt Ideal .f32) (X9 : S6x128x768.Idx → Elt Ideal .bf16)

/-- The objectness pieces fill the point's two rows. -/
theorem pieces_obj : Filled (2 * ((i 0).val % 4)) (objB0 arg1 harg1 arg2 harg2 arg3 harg3 arg4 harg4 arg5 harg5 arg9 harg9 X1 X2 X3 X4 X5 X9) (objB1 arg1 harg1 arg2 harg2 arg3 harg3 arg4 harg4 arg5 harg5 arg9 harg9 X1 X2 X3 X4 X5 X9) 32 32
    (pieces c i arg1 harg1 arg2 harg2 arg3 harg3 arg4 harg4 arg5 harg5 arg6 harg6 arg7 harg7 arg8 harg8 arg9 harg9 arg10 harg10 arg11 harg11 arg12 harg12 X1 X2 X3 X4 X5 X6 X7 X8 X9).1 := by
  unfold pieces
  delta kernelRun
  dsimp only
  iterate 32 (refine Filled.step1 ?_ ?_ ?_; (· rfl); (· exact ⟨by decide, rfl⟩))
  iterate 32 (refine Filled.step0 ?_ ?_ ?_; (· rfl); (· exact ⟨by decide, rfl⟩))
  exact Filled.nil _ _ _

/-- The regression pieces. -/
theorem pieces_reg : (pieces c i arg1 harg1 arg2 harg2 arg3 harg3 arg4 harg4 arg5 harg5 arg6 harg6 arg7 harg7 arg8 harg8 arg9 harg9 arg10 harg10 arg11 harg11 arg12 harg12 X1 X2 X3 X4 X5 X6 X7 X8 X9).2
    = [⟨Rect.unit (s := S2x2x32x768) ![1, 1, 0, 0] S1x1x32x768.size inb_S2x2x32x768_S1x1x32x768_1_1_0_0, shapeCast S1x1x32x768 (regE1 arg1 harg1 arg2 harg2 arg3 harg3 arg6 harg6 arg7 harg7 arg9 harg9 X1 X2 X3 X6 X7 X9) shapeCasts_S32x768_S1x1x32x768⟩,
      ⟨Rect.unit (s := S2x2x32x768) ![1, 0, 0, 0] S1x1x32x768.size inb_S2x2x32x768_S1x1x32x768_1_0_0_0, shapeCast S1x1x32x768 (regS1 arg1 harg1 arg2 harg2 arg3 harg3 arg6 harg6 arg7 harg7 arg9 harg9 X1 X2 X3 X6 X7 X9) shapeCasts_S32x768_S1x1x32x768⟩,
      ⟨Rect.unit (s := S2x2x32x768) ![0, 1, 0, 0] S1x1x32x768.size inb_S2x2x32x768_S1x1x32x768_0_1_0_0, shapeCast S1x1x32x768 (regE0 arg1 harg1 arg2 harg2 arg3 harg3 arg6 harg6 arg7 harg7 arg9 harg9 X1 X2 X3 X6 X7 X9) shapeCasts_S32x768_S1x1x32x768⟩,
      ⟨Rect.unit (s := S2x2x32x768) ![0, 0, 0, 0] S1x1x32x768.size inb_S2x2x32x768_S1x1x32x768_0_0_0_0, shapeCast S1x1x32x768 (regS0 arg1 harg1 arg2 harg2 arg3 harg3 arg6 harg6 arg7 harg7 arg9 harg9 X1 X2 X3 X6 X7 X9) shapeCasts_S32x768_S1x1x32x768⟩] := by
  rfl

end Operands

end Cert.KernelIdeal.Hand

end
-- ==== Proof.Left.lean ====
/-
  Hand-written, untrusted. What the body leaves in each output block at a grid point, index by index, over the extended reals: the
  objectness rows of the point's two batches (the other rows as they were), the whole regression block, and the whole anchor block.
-/
module

public import proofs.«01_k».proof.Proof.Vals

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The six matrices side by side are the one-hot matrices of the six channels. -/
def OneHots (X9 : S6x128x768.Idx → Elt Ideal .bf16) : Prop :=
  ∀ (ch : Fin 6) (j : Fin 128) (q : Fin 768), X9 (ix3 ch j q) = if q.val = 6 * j.val + ch.val then (1 : EReal) else 0

/-- The hidden layer of batch `bb` of the block. -/
def blkH (X1 : S2x128x4096.Idx → Elt Ideal .f32) (X2 : S128x384.Idx → Elt Ideal .f32) (X3 : S128x1.Idx → Elt Ideal .f32) (bb : Fin 2) :
    Fin 128 → Fin 4096 → EReal :=
  hidV (fun p l => X1 (ix3 bb p l)) (fun o k => X2 (ix2 o k)) (fun o => X3 (ix2 o 0))

/-- A head over the hidden layer of batch `bb` of the block. -/
def blkHead {n : Nat} (X1 : S2x128x4096.Idx → Elt Ideal .f32) (X2 : S128x384.Idx → Elt Ideal .f32) (X3 : S128x1.Idx → Elt Ideal .f32)
    (W : Fin n → Fin 128 → EReal) (b : Fin n → EReal) (bb : Fin 2) : Fin n → Fin 4096 → EReal :=
  headV (blkH X1 X2 X3 bb) W b

/-- The regression block that holds `D` interleaved. -/
def regFill (D : Fin 2 → Fin 12 → Fin 4096 → EReal) (y : S2x2x32x768.Idx) : Elt Ideal .f32 :=
  D (y 0) ⟨6 * (y 1).val + (y 3).val % 6, by have := (y 1).isLt; change _ < 2 at this; omega⟩
    ⟨128 * (y 2).val + (y 3).val / 6, by have := (y 2).isLt; have h3 := (y 3).isLt; change _ < 32 at this; change _ < 768 at h3; omega⟩

/-- Where a store of the regression block puts its payload. -/
theorem reg_emb (α β : Fin 2) {inb} (a b : Fin 1) (r : Fin 32) (q : Fin 768) :
    (Rect.unit (s := S2x2x32x768) ![α.val, β.val, 0, 0] S1x1x32x768.size inb).emb (ix4 a b r q) = ix4 α β r q := by
  refine funext fun d => Fin.ext ?_
  match d with
  | 0 => show α.val + 1 * a.val = α.val; omega
  | 1 => show β.val + 1 * b.val = β.val; omega
  | 2 => show 0 + 1 * r.val = r.val; omega
  | 3 => show 0 + 1 * q.val = q.val; omega

theorem mem_reg (α β : Fin 2) {inb} (r : Fin 32) (q : Fin 768) :
    ix4 α β r q ∈ (Rect.unit (s := S2x2x32x768) ![α.val, β.val, 0, 0] S1x1x32x768.size inb).set := by
  rw [Rect.mem_set_unit]
  intro d
  match d with
  | 0 => exact ⟨Nat.le_refl _, Nat.lt_succ_self _⟩
  | 1 => exact ⟨Nat.le_refl _, Nat.lt_succ_self _⟩
  | 2 => exact ⟨Nat.zero_le _, by show r.val < 0 + 32; omega⟩
  | 3 => exact ⟨Nat.zero_le _, by show q.val < 0 + 768; omega⟩

/-- A store of the regression block agrees with the block's contents. -/
theorem reg_val {α β : Fin 2} {inb} (V : FVec Ideal S32x768 .f32) (D : Fin 2 → Fin 12 → Fin 4096 → EReal)
    (hV : ∀ (r : Fin 32) (q : Fin 768), V (ix2 r q) = D α ⟨6 * β.val + q.val % 6, by omega⟩ ⟨128 * r.val + q.val / 6, by omega⟩) (x : S1x1x32x768.Idx) :
    shapeCast S1x1x32x768 V shapeCasts_S32x768_S1x1x32x768 x
      = regFill D ((Rect.unit (s := S2x2x32x768) ![α.val, β.val, 0, 0] S1x1x32x768.size inb).emb x) := by
  obtain ⟨a, b, r, q, rfl⟩ : ∃ (a b : Fin 1) (r : Fin 32) (q : Fin 768), x = ix4 a b r q := ⟨x 0, x 1, x 2, x 3, eq_ix4 x⟩
  rw [reg_emb]
  pointwise
  exact hV r q

/-- The anchor block over the offsets `X8`. -/
def anchFill (X8 : S2x1x768.Idx → Elt Ideal .f32) (y : S2x32x768.Idx) : Elt Ideal .f32 :=
  k0_pay3 (F := Ideal) (ix2 (y 1) (y 2)) + X8 (ix3 (y 0) 0 (y 2))

/-- Where a store of the anchor block puts its payload. -/
theorem anch_emb (α : Fin 2) {inb} (a : Fin 1) (r : Fin 32) (q : Fin 768) :
    (Rect.unit (s := S2x32x768) ![α.val, 0, 0] S1x32x768.size inb).emb (ix3 a r q) = ix3 α r q := by
  refine funext fun d => Fin.ext ?_
  match d with
  | 0 => show α.val + 1 * a.val = α.val; omega
  | 1 => show 0 + 1 * r.val = r.val; omega
  | 2 => show 0 + 1 * q.val = q.val; omega

theorem mem_anch (α : Fin 2) {inb} (r : Fin 32) (q : Fin 768) :
    ix3 α r q ∈ (Rect.unit (s := S2x32x768) ![α.val, 0, 0] S1x32x768.size inb).set := by
  rw [Rect.mem_set_unit]
  intro d
  match d with
  | 0 => exact ⟨Nat.le_refl _, Nat.lt_succ_self _⟩
  | 1 => exact ⟨Nat.zero_le _, by show r.val < 0 + 32; omega⟩
  | 2 => exact ⟨Nat.zero_le _, by show q.val < 0 + 768; omega⟩

section Operands

variable (c : Dev nD) (i : grid0.Coords)
    (arg1 : Memref sig .tc .vmem S2x128x4096 .f32) (harg1 : arg1.IsWhole)
    (arg2 : Memref sig .tc .vmem S128x384 .f32) (harg2 : arg2.IsWhole)
    (arg3 : Memref sig .tc .vmem S128x1 .f32) (harg3 : arg3.IsWhole)
    (arg4 : Memref sig .tc .vmem S6x128 .f32) (harg4 : arg4.IsWhole)
    (arg5 : Memref sig .tc .vmem S6x1 .f32) (harg5 : arg5.IsWhole)
    (arg6 : Memref sig .tc .vmem S12x128 .f32) (harg6 : arg6.IsWhole)
    (arg7 : Memref sig .tc .vmem S12x1 .f32) (harg7 : arg7.IsWhole)
    (arg8 : Memref sig .tc .vmem S2x1x768 .f32) (harg8 : arg8.IsWhole)
    (arg9 : Memref sig .tc .vmem S6x128x768 .bf16) (harg9 : arg9.IsWhole)
    (arg10 : Memref sig .tc .vmem S1x8x24576 .f32) (harg10 : arg10.IsWhole)
    (arg11 : Memref sig .tc .vmem S2x2x32x768 .f32) (harg11 : arg11.IsWhole)
    (arg12 : Memref sig .tc .vmem S2x32x768 .f32) (harg12 : arg12.IsWhole)
    (X1 : S2x128x4096.Idx → Elt Ideal .f32) (X2 : S128x384.Idx → Elt Ideal .f32) (X3 : S128x1.Idx → Elt Ideal .f32) (X4 : S6x128.Idx → Elt Ideal .f32) (X5 : S6x1.Idx → Elt Ideal .f32) (X6 : S12x128.Idx → Elt Ideal .f32) (X7 : S12x1.Idx → Elt Ideal .f32) (X8 : S2x1x768.Idx → Elt Ideal .f32) (X9 : S6x128x768.Idx → Elt Ideal .bf16)

theorem onehot0 (h : OneHots X9) : OneHot 0 (ld_p0 arg9 harg9 X9) := fun j q => by
  rw [ld_p0_apply]; exact h 0 j q

theorem onehot1 (h : OneHots X9) : OneHot 1 (ld_p1 arg9 harg9 X9) := fun j q => by
  rw [ld_p1_apply]; exact h 1 j q

theorem onehot2 (h : OneHots X9) : OneHot 2 (ld_p2 arg9 harg9 X9) := fun j q => by
  rw [ld_p2_apply]; exact h 2 j q

theorem onehot3 (h : OneHots X9) : OneHot 3 (ld_p3 arg9 harg9 X9) := fun j q => by
  rw [ld_p3_apply]; exact h 3 j q

theorem onehot4 (h : OneHots X9) : OneHot 4 (ld_p4 arg9 harg9 X9) := fun j q => by
  rw [ld_p4_apply]; exact h 4 j q

theorem onehot5 (h : OneHots X9) : OneHot 5 (ld_p5 arg9 harg9 X9) := fun j q => by
  rw [ld_p5_apply]; exact h 5 j q

theorem hid0_apply (o : Fin 128) (l : Fin 4096) :
    k0_pay6 (F := Ideal) (ld_x0 arg1 harg1 X1) (ld_w2 arg2 harg2 X2) (ld_cb arg3 harg3 X3) (ix2 o l) = blkH X1 X2 X3 0 o l := by
  rw [pay6_apply]
  unfold blkH
  simp only [ld_x0_apply, ld_w2_apply, ld_cb_apply]

theorem objB0_apply (h : OneHots X9) (r : Fin 32) (q : Fin 768) :
    objB0 arg1 harg1 arg2 harg2 arg3 harg3 arg4 harg4 arg5 harg5 arg9 harg9 X1 X2 X3 X4 X5 X9 (ix2 r q)
      = blkHead X1 X2 X3 (fun ch o => X4 (ix2 ch o)) (fun ch => X5 (ix2 ch 0)) 0 ⟨q.val % 6, by omega⟩ ⟨128 * r.val + q.val / 6, by omega⟩ := by
  unfold objB0 blkHead
  rw [inter_apply _ (onehot0 _ _ _ h) (onehot1 _ _ _ h) (onehot2 _ _ _ h) (onehot3 _ _ _ h) (onehot4 _ _ _ h) (onehot5 _ _ _ h), pay8_apply]
  simp only [hid0_apply, ld_ow_apply, ld_ob_apply]

theorem regS0_apply (h : OneHots X9) (r : Fin 32) (q : Fin 768) :
    regS0 arg1 harg1 arg2 harg2 arg3 harg3 arg6 harg6 arg7 harg7 arg9 harg9 X1 X2 X3 X6 X7 X9 (ix2 r q)
      = blkHead X1 X2 X3 (fun ch o => X6 (ix2 ch o)) (fun ch => X7 (ix2 ch 0)) 0 ⟨q.val % 6, by omega⟩ ⟨128 * r.val + q.val / 6, by omega⟩ := by
  unfold regS0 blkHead
  rw [inter_apply _ (onehot0 _ _ _ h) (onehot1 _ _ _ h) (onehot2 _ _ _ h) (onehot3 _ _ _ h) (onehot4 _ _ _ h) (onehot5 _ _ _ h), pay47_apply,
    pay46_apply]
  simp only [hid0_apply, ld_rw_apply, ld_rb_apply]

theorem regE0_apply (h : OneHots X9) (r : Fin 32) (q : Fin 768) :
    regE0 arg1 harg1 arg2 harg2 arg3 harg3 arg6 harg6 arg7 harg7 arg9 harg9 X1 X2 X3 X6 X7 X9 (ix2 r q)
      = blkHead X1 X2 X3 (fun ch o => X6 (ix2 ch o)) (fun ch => X7 (ix2 ch 0)) 0 ⟨6 + q.val % 6, by omega⟩ ⟨128 * r.val + q.val / 6, by omega⟩ := by
  unfold regE0 blkHead
  rw [inter_apply _ (onehot0 _ _ _ h) (onehot1 _ _ _ h) (onehot2 _ _ _ h) (onehot3 _ _ _ h) (onehot4 _ _ _ h) (onehot5 _ _ _ h), pay51_apply,
    pay46_apply]
  simp only [hid0_apply, ld_rw_apply, ld_rb_apply]

theorem hid1_apply (o : Fin 128) (l : Fin 4096) :
    k0_pay6 (F := Ideal) (ld_x1 arg1 harg1 X1) (ld_w2 arg2 harg2 X2) (ld_cb arg3 harg3 X3) (ix2 o l) = blkH X1 X2 X3 1 o l := by
  rw [pay6_apply]
  unfold blkH
  simp only [ld_x1_apply, ld_w2_apply, ld_cb_apply]

theorem objB1_apply (h : OneHots X9) (r : Fin 32) (q : Fin 768) :
    objB1 arg1 harg1 arg2 harg2 arg3 harg3 arg4 harg4 arg5 harg5 arg9 harg9 X1 X2 X3 X4 X5 X9 (ix2 r q)
      = blkHead X1 X2 X3 (fun ch o => X4 (ix2 ch o)) (fun ch => X5 (ix2 ch 0)) 1 ⟨q.val % 6, by omega⟩ ⟨128 * r.val + q.val / 6, by omega⟩ := by
  unfold objB1 blkHead
  rw [inter_apply _ (onehot0 _ _ _ h) (onehot1 _ _ _ h) (onehot2 _ _ _ h) (onehot3 _ _ _ h) (onehot4 _ _ _ h) (onehot5 _ _ _ h), pay8_apply]
  simp only [hid1_apply, ld_ow_apply, ld_ob_apply]

theorem regS1_apply (h : OneHots X9) (r : Fin 32) (q : Fin 768) :
    regS1 arg1 harg1 arg2 harg2 arg3 harg3 arg6 harg6 arg7 harg7 arg9 harg9 X1 X2 X3 X6 X7 X9 (ix2 r q)
      = blkHead X1 X2 X3 (fun ch o => X6 (ix2 ch o)) (fun ch => X7 (ix2 ch 0)) 1 ⟨q.val % 6, by omega⟩ ⟨128 * r.val + q.val / 6, by omega⟩ := by
  unfold regS1 blkHead
  rw [inter_apply _ (onehot0 _ _ _ h) (onehot1 _ _ _ h) (onehot2 _ _ _ h) (onehot3 _ _ _ h) (onehot4 _ _ _ h) (onehot5 _ _ _ h), pay47_apply,
    pay46_apply]
  simp only [hid1_apply, ld_rw_apply, ld_rb_apply]

theorem regE1_apply (h : OneHots X9) (r : Fin 32) (q : Fin 768) :
    regE1 arg1 harg1 arg2 harg2 arg3 harg3 arg6 harg6 arg7 harg7 arg9 harg9 X1 X2 X3 X6 X7 X9 (ix2 r q)
      = blkHead X1 X2 X3 (fun ch o => X6 (ix2 ch o)) (fun ch => X7 (ix2 ch 0)) 1 ⟨6 + q.val % 6, by omega⟩ ⟨128 * r.val + q.val / 6, by omega⟩ := by
  unfold regE1 blkHead
  rw [inter_apply _ (onehot0 _ _ _ h) (onehot1 _ _ _ h) (onehot2 _ _ _ h) (onehot3 _ _ _ h) (onehot4 _ _ _ h) (onehot5 _ _ _ h), pay51_apply,
    pay46_apply]
  simp only [hid1_apply, ld_rw_apply, ld_rb_apply]

/-- The objectness block after the body: the point's two rows at the head's values, the other rows as found. -/
theorem left10_apply (h : OneHots X9) (Y : S1x8x24576.Idx → Elt Ideal .f32) (ρ : Fin 8) (n : Fin 24576) :
    left10 c i arg1 harg1 arg2 harg2 arg3 harg3 arg4 harg4 arg5 harg5 arg6 harg6 arg7 harg7 arg8 harg8 arg9 harg9 arg10 harg10 arg11 harg11 arg12 harg12 X1 X2 X3 X4 X5 X6 X7 X8 X9 Y (ix3 0 ρ n)
      = if ρ.val / 2 = (i 0).val % 4 then
          blkHead X1 X2 X3 (fun ch o => X4 (ix2 ch o)) (fun ch => X5 (ix2 ch 0)) ⟨ρ.val % 2, by omega⟩ ⟨n.val % 6, by omega⟩ ⟨n.val / 6, by omega⟩
        else Y (ix3 0 ρ n) := by
  have H := pieces_obj c i arg1 harg1 arg2 harg2 arg3 harg3 arg4 harg4 arg5 harg5 arg6 harg6 arg7 harg7 arg8 harg8 arg9 harg9 arg10 harg10 arg11 harg11 arg12 harg12 X1 X2 X3 X4 X5 X6 X7 X8 X9
  unfold left10
  have hk : n.val / 768 < 32 := by omega
  have e1 : n.val % 768 % 6 = n.val % 6 := by omega
  have e2 : 128 * (n.val / 768) + n.val % 768 / 6 = n.val / 6 := by omega
  by_cases hρ : ρ.val / 2 = (i 0).val % 4
  · rw [if_pos hρ, View.read_writes_apply_of_pieces _ _ (fill _ _ _) _ H.val]
    · show (if ρ.val = 2 * ((i 0).val % 4) then _ else _ : FVec Ideal S32x768 .f32) (ix2 ⟨n.val / 768, hk⟩ ⟨n.val % 768, by omega⟩) = _
      by_cases h0 : ρ.val = 2 * ((i 0).val % 4)
      · have e3 : (⟨ρ.val % 2, by omega⟩ : Fin 2) = 0 := Fin.ext (by simp only [Fin.val_zero]; omega)
        rw [if_pos h0, objB0_apply _ _ _ _ _ _ _ _ _ _ _ _ _ _ _ _ _ _ h, e3]
        simp only [e1, e2]
      · have e3 : (⟨ρ.val % 2, by omega⟩ : Fin 2) = 1 := Fin.ext (by simp only [Fin.val_one]; omega)
        rw [if_neg h0, objB1_apply _ _ _ _ _ _ _ _ _ _ _ _ _ _ _ _ _ _ h, e3]
        simp only [e1, e2]
    · have hn : n.val < 768 * 32 := by omega
      by_cases h0 : ρ.val = 2 * ((i 0).val % 4)
      · exact H.cov0 _ h0 hn
      · exact H.cov1 _ (show ρ.val = _ by omega) hn
  · rw [if_neg hρ, View.read_writes_apply_of_forall_not_mem _ _ _ _ fun p hp hm => ?_, harg10.read_unread]
    have := H.row p hp _ hm
    change ρ.val = _ ∨ ρ.val = _ at this
    omega

/-- The regression block after the body. -/
theorem left11_apply (h : OneHots X9) (Y : S2x2x32x768.Idx → Elt Ideal .f32) (bb s : Fin 2) (r : Fin 32) (q : Fin 768) :
    left11 c i arg1 harg1 arg2 harg2 arg3 harg3 arg4 harg4 arg5 harg5 arg6 harg6 arg7 harg7 arg8 harg8 arg9 harg9 arg10 harg10 arg11 harg11 arg12 harg12 X1 X2 X3 X4 X5 X6 X7 X8 X9 Y (ix4 bb s r q)
      = blkHead X1 X2 X3 (fun ch o => X6 (ix2 ch o)) (fun ch => X7 (ix2 ch 0)) bb ⟨6 * s.val + q.val % 6, by omega⟩
          ⟨128 * r.val + q.val / 6, by omega⟩ := by
  unfold left11
  rw [pieces_reg]
  rw [View.read_writes_apply_of_pieces _ _ (regFill (blkHead X1 X2 X3 (fun ch o => X6 (ix2 ch o)) (fun ch => X7 (ix2 ch 0))))]
  · rfl
  · simp only [List.forall_mem_cons, List.not_mem_nil, false_imp_iff, implies_true, and_true]
    exact ⟨reg_val (α := 1) (β := 1) _ _ (regE1_apply _ _ _ _ _ _ _ _ _ _ _ _ _ _ _ _ _ _ h), reg_val (α := 1) (β := 0) _ _ fun r q => (regS1_apply _ _ _ _ _ _ _ _ _ _ _ _ _ _ _ _ _ _ h r q).trans (by simp),
      reg_val (α := 0) (β := 1) _ _ (regE0_apply _ _ _ _ _ _ _ _ _ _ _ _ _ _ _ _ _ _ h), reg_val (α := 0) (β := 0) _ _ fun r q => (regS0_apply _ _ _ _ _ _ _ _ _ _ _ _ _ _ _ _ _ _ h r q).trans (by simp)⟩
  · simp only [List.exists_mem_cons_iff, List.not_mem_nil, false_and, exists_false, or_false]
    have e : ∀ b : Fin 2, b = 0 ∨ b = 1 := by decide
    rcases e bb with rfl | rfl <;> rcases e s with rfl | rfl
    · exact Or.inr (Or.inr (Or.inr (mem_reg 0 0 r q)))
    · exact Or.inr (Or.inr (Or.inl (mem_reg 0 1 r q)))
    · exact Or.inr (Or.inl (mem_reg 1 0 r q))
    · exact Or.inl (mem_reg 1 1 r q)

/-- The two stores of the anchor block agree with the block's contents. -/
theorem anch_val0 {inb} (x : S1x32x768.Idx) :
    k0_pay4 (F := Ideal) (ld_xa0 arg8 harg8 X8) x = anchFill X8 ((Rect.unit (s := S2x32x768) ![0, 0, 0] S1x32x768.size inb).emb x) := by
  obtain ⟨a, r, q, rfl⟩ : ∃ (a : Fin 1) (r : Fin 32) (q : Fin 768), x = ix3 a r q := ⟨x 0, x 1, x 2, eq_ix3 x⟩
  obtain rfl : a = 0 := Subsingleton.elim _ _
  have e := anch_emb 0 (inb := inb) 0 r q
  refine Eq.trans ?_ (congrArg (anchFill X8) e.symm)
  rw [pay4_apply, ld_xa0_apply]
  rfl

theorem anch_val1 {inb} (x : S1x32x768.Idx) :
    k0_pay2 (F := Ideal) (k0_pay3 (F := Ideal)) (k0_pay5 (ld_xa1 arg8 harg8 X8)) x
      = anchFill X8 ((Rect.unit (s := S2x32x768) ![1, 0, 0] S1x32x768.size inb).emb x) := by
  obtain ⟨a, r, q, rfl⟩ : ∃ (a : Fin 1) (r : Fin 32) (q : Fin 768), x = ix3 a r q := ⟨x 0, x 1, x 2, eq_ix3 x⟩
  obtain rfl : a = 0 := Subsingleton.elim _ _
  have e := anch_emb 1 (inb := inb) 0 r q
  refine Eq.trans ?_ (congrArg (anchFill X8) e.symm)
  rw [pay2_apply, ld_xa1_apply]
  rfl

/-- The anchor block after the body: at the first point the anchors, later as found. -/
theorem left12_apply (Y : S2x32x768.Idx → Elt Ideal .f32) (hc : k0_cond1 i = 1#1) (s : Fin 2) (r : Fin 32) (q : Fin 768) :
    left12 i arg8 harg8 arg12 harg12 X8 Y (ix3 s r q) = k0_pay3 (F := Ideal) (ix2 r q) + X8 (ix3 s 0 q) := by
  unfold left12
  rw [if_pos hc, View.read_writes_apply_of_pieces _ _ (anchFill X8)]
  · rfl
  · simp only [anchPieces, List.forall_mem_cons, List.not_mem_nil, false_imp_iff, implies_true, and_true]
    exact ⟨anch_val1 arg8 harg8 X8, anch_val0 arg8 harg8 X8⟩
  · simp only [anchPieces, List.exists_mem_cons_iff, List.not_mem_nil, false_and, exists_false, or_false]
    have e : ∀ b : Fin 2, b = 0 ∨ b = 1 := by decide
    rcases e s with rfl | rfl
    · exact Or.inr (mem_anch 0 r q)
    · exact Or.inl (mem_anch 1 r q)

/-- Later the block stays. -/
theorem left12_later (Y : S2x32x768.Idx → Elt Ideal .f32) (hc : ¬ k0_cond1 i = 1#1) : left12 i arg8 harg8 arg12 harg12 X8 Y = Y := by
  unfold left12
  rw [if_neg hc, harg12.read_unread]

end Operands

end Cert.KernelIdeal.Hand

end
-- ==== Proof.Blocks.lean ====
/-
  Hand-written, untrusted. The blocks that the body reads at a point, each at an index in terms of the arguments.
-/
module

public import proofs.«01_k».proof.Proof.Entry
public import proofs.«01_k».proof.Proof.Left

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The input windows' block indices: the features move with the point, every other block is the whole array. -/
theorem idx (t : Fin cfg0.N) : win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0, 0] :=
  (by decide +kernel : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0, 0] ∧ win0_8.index t = ![0, 0, 0]) t

theorem coords_val (t : Fin cfg0.N) : (grid0.coords t 0).val = t.val :=
  (by decide +kernel : ∀ t : Fin grid0.N, (grid0.coords t 0).val = t.val) t

theorem cond1_iff (t : Fin cfg0.N) : k0_cond1 (grid0.coords t) = 1#1 ↔ t.val = 0 :=
  (by decide +kernel : ∀ t : Fin grid0.N, k0_cond1 (grid0.coords t) = 1#1 ↔ t.val = 0) t

theorem lt8 (t : Fin cfg0.N) : t.val < 8 := t.isLt

theorem read0 (t : Fin cfg0.N) (bb : Fin 2) (p : Fin 128) (l : Fin 4096) : (iblk m c 0 t : _) (ix3 bb p l) = (V m c main_arg0 : _) (ix3 ⟨2 * t.val + bb.val, by have := lt8 t; omega⟩ p l) := by
  have h := idx t
  blk_ext [iblk, h]

theorem iblk0 (t : Fin cfg0.N) (bb : Fin 2) (p : Fin 128) (l : Fin 4096) : (iblk m c 0 t : _) (ix3 bb p l) = m ((c.tc : Thread nD τ).loc main_arg0) (ix3 ⟨2 * t.val + bb.val, by have := lt8 t; omega⟩ p l) := by
  rw [read0, entry_arg0]

theorem read1 (t : Fin cfg0.N) (o : Fin 128) (k : Fin 384) : (iblk m c 1 t : _) (ix2 o k) = (V m c main_call0_v1 : _) (ix2 o k) := by
  have h := idx t
  blk_ext [iblk, h]

theorem iblk1 (t : Fin cfg0.N) (o : Fin 128) (k : Fin 384) : (iblk m c 1 t : _) (ix2 o k) = m ((c.tc : Thread nD τ).loc main_arg1) (ix3 o ⟨k.val % 128, by omega⟩ ⟨k.val / 128, by omega⟩) := by
  rw [read1]
  exact entry_v1 m c o k

theorem read2 (t : Fin cfg0.N) (o : Fin 128) : (iblk m c 2 t : _) (ix2 o 0) = (V m c main_call0_v2 : _) (ix2 o 0) := by
  have h := idx t
  blk_ext [iblk, h]

theorem iblk2 (t : Fin cfg0.N) (o : Fin 128) : (iblk m c 2 t : _) (ix2 o 0) = m ((c.tc : Thread nD τ).loc main_arg2) (ix1 o) := by
  rw [read2]
  exact entry_v2 m c o

theorem read3 (t : Fin cfg0.N) (a : Fin 6) (o : Fin 128) : (iblk m c 3 t : _) (ix2 a o) = (V m c main_call0_v3 : _) (ix2 a o) := by
  have h := idx t
  blk_ext [iblk, h]

theorem iblk3 (t : Fin cfg0.N) (a : Fin 6) (o : Fin 128) : (iblk m c 3 t : _) (ix2 a o) = m ((c.tc : Thread nD τ).loc main_arg3) (ix3 a o 0) := by
  rw [read3]
  exact entry_v3 m c a o

theorem read4 (t : Fin cfg0.N) (a : Fin 6) : (iblk m c 4 t : _) (ix2 a 0) = (V m c main_call0_v4 : _) (ix2 a 0) := by
  have h := idx t
  blk_ext [iblk, h]

theorem iblk4 (t : Fin cfg0.N) (a : Fin 6) : (iblk m c 4 t : _) (ix2 a 0) = m ((c.tc : Thread nD τ).loc main_arg4) (ix1 a) := by
  rw [read4]
  exact entry_v4 m c a

theorem read5 (t : Fin cfg0.N) (a : Fin 12) (o : Fin 128) : (iblk m c 5 t : _) (ix2 a o) = (V m c main_call0_v23 : _) (ix2 a o) := by
  have h := idx t
  blk_ext [iblk, h]

theorem iblk5 (t : Fin cfg0.N) (a : Fin 12) (o : Fin 128) : (iblk m c 5 t : _) (ix2 a o) = m ((c.tc : Thread nD τ).loc main_arg5) (ix3 (pairOf a) o 0) := by
  rw [read5]
  exact entry_v23 m c a o

theorem read6 (t : Fin cfg0.N) (a : Fin 12) : (iblk m c 6 t : _) (ix2 a 0) = (V m c main_call0_v31 : _) (ix2 a 0) := by
  have h := idx t
  blk_ext [iblk, h]

theorem iblk6 (t : Fin cfg0.N) (a : Fin 12) : (iblk m c 6 t : _) (ix2 a 0) = m ((c.tc : Thread nD τ).loc main_arg6) (ix1 (pairOf a)) := by
  rw [read6]
  exact entry_v31 m c a

theorem read7 (t : Fin cfg0.N) (s : Fin 2) (q : Fin 768) : (iblk m c 7 t : _) (ix3 s 0 q) = (V m c main_call0_v55 : _) (ix3 s 0 q) := by
  have h := idx t
  blk_ext [iblk, h]

theorem iblk7 (t : Fin cfg0.N) (s : Fin 2) (q : Fin 768) : (iblk m c 7 t : _) (ix3 s 0 q) = Ideal.ofBits .f32 (lit1 (S2.rowMajor (ix1 s))) * Ideal.ofBits .f32 (lit0 (S6.rowMajor (ix1 ⟨q.val % 6, by omega⟩))) := by
  rw [read7]
  exact entry_v55 m c s q

theorem read8 (t : Fin cfg0.N) (a : Fin 6) (j : Fin 128) (q : Fin 768) : (iblk m c 8 t : _) (ix3 a j q) = (V m c main_call0_v70 : _) (ix3 a j q) := by
  have h := idx t
  blk_ext [iblk, h]

theorem iblk8 (t : Fin cfg0.N) (a : Fin 6) (j : Fin 128) (q : Fin 768) : (iblk m c 8 t : _) (ix3 a j q) = if q.val = 6 * j.val + a.val then (1 : EReal) else 0 := by
  rw [read8]
  exact entry_v70 m c a j q

theorem onehots (t : Fin cfg0.N) : OneHots (iblk m c 8 t) := fun a j q => iblk8 m c t a j q

end Cert.KernelIdeal.Hand

end
-- ==== Proof.Upd.lean ====
/-
  Hand-written, untrusted. What the result arrays hold after the launch, over the extended reals, in terms of the arguments: the two
  heads and the anchors at every index.
-/
module

public import proofs.«01_k».proof.Proof.Blocks
public import proofs.«01_k».proof.Proof.Oblig
public import Idealize.ShloMosaic.Lib.Pipeline.ArrRel
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The hidden layer of batch `n`, of the features `x`, the convolution's weights `w` and its bias `b`. -/
def hidA (x : S16x128x4096.Idx → EReal) (w : S128x128x3.Idx → EReal) (b : S128.Idx → EReal) (n : Fin 16) : Fin 128 → Fin 4096 → EReal :=
  hidV (fun p l => x (ix3 n p l)) (fun o k => w (ix3 o ⟨k.val % 128, by omega⟩ ⟨k.val / 128, by omega⟩)) (fun o => b (ix1 o))

/-- Row `8 g + ρ` of the objectness result, at `n`. -/
def objA (x : S16x128x4096.Idx → EReal) (w : S128x128x3.Idx → EReal) (b : S128.Idx → EReal) (ow : S6x128x1.Idx → EReal) (ob : S6.Idx → EReal)
    (n : Fin 16) (r : Fin 24576) : EReal :=
  headV (hidA x w b n) (fun ch o => ow (ix3 ch o 0)) (fun ch => ob (ix1 ch)) ⟨r.val % 6, by omega⟩ ⟨r.val / 6, by omega⟩

/-- The regression result at batch `n`, start or end `s`, proposal `r`. -/
def regA (x : S16x128x4096.Idx → EReal) (w : S128x128x3.Idx → EReal) (b : S128.Idx → EReal) (rw : S12x128x1.Idx → EReal) (rb : S12.Idx → EReal)
    (n : Fin 16) (s : Fin 2) (r : Fin 24576) : EReal :=
  headV (hidA x w b n) (fun ch o => rw (ix3 ch o 0)) (fun ch => rb (ix1 ch)) ⟨2 * (r.val % 6) + s.val, by omega⟩ ⟨r.val / 6, by omega⟩

/-- The anchor `r`'s start or end `s`. -/
def anchA (s : Fin 2) (r : Fin 24576) : EReal :=
  (FloatOps.sitofp (F := Ideal) .f32 (BitVec.ofNat 32 (r.val / 6)) + Ideal.ofBits .f32 0x3F000000#32)
    + Ideal.ofBits .f32 (lit1 (S2.rowMajor (ix1 s))) * Ideal.ofBits .f32 (lit0 (S6.rowMajor (ix1 ⟨r.val % 6, by omega⟩)))

variable (m : (ℓ : Loc nD τ sig) → Buf (Elt Ideal) ℓ) (c : Dev nD)

/-- The block's hidden layer is the batch's. -/
theorem blkH_eq (t : Fin cfg0.N) (bb : Fin 2) :
    blkH (iblk m c 0 t) (iblk m c 1 t) (iblk m c 2 t) bb
      = hidA (m ((c.tc : Thread nD τ).loc main_arg0)) (m ((c.tc : Thread nD τ).loc main_arg1)) (m ((c.tc : Thread nD τ).loc main_arg2)) ⟨2 * t.val + bb.val, by have := lt8 t; omega⟩ := by
  unfold blkH hidA
  simp only [iblk0, iblk1, iblk2]

/-- The body's update of the objectness block at an index. -/
theorem upd9_apply (t : Fin cfg0.N) (Y : S1x8x24576.Idx → Elt Ideal .f32) (ρ : Fin 8) (n : Fin 24576) :
    upd9 m c t Y (ix3 0 ρ n) = if ρ.val / 2 = t.val % 4 then
      objA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨2 * t.val + ρ.val % 2, by have := lt8 t; omega⟩ n else Y (ix3 0 ρ n) := by
  unfold upd9
  rw [left10_apply (h := onehots m c t), coords_val]
  unfold blkHead objA
  rw [blkH_eq]
  simp only [iblk3, iblk4]

/-- The body's update of the regression block at an index. -/
theorem upd10_apply (t : Fin cfg0.N) (Y : S2x2x32x768.Idx → Elt Ideal .f32) (bb s : Fin 2) (r : Fin 32) (q : Fin 768) :
    upd10 m c t Y (ix4 bb s r q)
      = regA (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) ⟨2 * t.val + bb.val, by have := lt8 t; omega⟩ s ⟨768 * r.val + q.val, by omega⟩ := by
  unfold upd10
  rw [left11_apply (h := onehots m c t)]
  unfold blkHead regA
  rw [blkH_eq]
  unfold headV
  simp only [iblk5, iblk6]
  have e1 : (768 * r.val + q.val) % 6 = q.val % 6 := by omega
  have e2 : (768 * r.val + q.val) / 6 = 128 * r.val + q.val / 6 := by omega
  have e3 : pairOf ⟨6 * s.val + q.val % 6, by omega⟩ = ⟨2 * (q.val % 6) + s.val, by omega⟩ := by
    refine Fin.ext ?_
    show (if 6 * s.val + q.val % 6 < 6 then 2 * (6 * s.val + q.val % 6) else 2 * (6 * s.val + q.val % 6 - 6) + 1) = 2 * (q.val % 6) + s.val
    split <;> omega
  simp only [e1, e2, e3]

/-- The body's update of the anchors at the first point. -/
theorem upd11_first (t : Fin cfg0.N) (ht : t.val = 0) (Y : S2x32x768.Idx → Elt Ideal .f32) (s : Fin 2) (r : Fin 32) (q : Fin 768) :
    upd11 m c t Y (ix3 s r q) = anchA s ⟨768 * r.val + q.val, by omega⟩ := by
  unfold upd11
  rw [left12_apply (hc := (cond1_iff t).2 ht), pay3_apply, iblk7]
  unfold anchA
  have e1 : (768 * r.val + q.val) % 6 = q.val % 6 := by omega
  have e2 : (768 * r.val + q.val) / 6 = 128 * r.val + q.val / 6 := by omega
  simp only [e1, e2]

/-- Later points leave the anchors alone. -/
theorem upd11_later (t : Fin cfg0.N) (ht : t.val ≠ 0) (Y : S2x32x768.Idx → Elt Ideal .f32) : upd11 m c t Y = Y := by
  unfold upd11
  exact left12_later (hc := fun h => ht ((cond1_iff t).1 h)) ..

end Cert.KernelIdeal.Hand

end
-- ==== Proof.Leave.lean ====
/-
  Hand-written, untrusted. What the result arrays hold after the launch, over the extended reals: the blocks the body leaves, gathered
  over the points.
-/
module

public import proofs.«01_k».proof.Proof.Upd

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.ShloMosaic.Pipeline

variable (m : (ℓ : Loc nD τ sig) → Buf (Elt Ideal) ℓ) (c : Dev nD)

theorem nofetch9 (t : Fin cfg0.N) : (cfg0.win 9).fetch t = false :=
  (by decide +kernel : ∀ t : Fin grid0.N, win0_9.fetch t = false) t

theorem nofetch11 (t : Fin cfg0.N) : (cfg0.win 11).fetch t = false :=
  (by decide +kernel : ∀ t : Fin grid0.N, win0_11.fetch t = false) t

/-- What the body may have left in the objectness block at a point: the rows of its group of four points up to that point. -/
theorem leaves9 : ∀ (k : ℕ) (t : Fin cfg0.N), t.val = k → ∀ X, (rdat m c).Leaves 9 t X → ∀ (ρ : Fin 8) (n : Fin 24576), ρ.val / 2 ≤ t.val % 4 →
    X (ix3 0 ρ n) = objA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨8 * (t.val / 4) + ρ.val, by have := lt8 t; omega⟩ n := by
  intro k
  induction k using Nat.strong_induction_on with
  | _ k ih =>
    intro t htk X hX ρ n hρ
    obtain ⟨Y, hY, hU⟩ := hX
    rw [after_9] at hU
    have hU' : X = upd9 m c t Y := hU
    rw [hU', upd9_apply]
    by_cases h : ρ.val / 2 = t.val % 4
    · rw [if_pos h]
      congr 1
      exact Fin.ext (by show 2 * t.val + ρ.val % 2 = 8 * (t.val / 4) + ρ.val; omega)
    · rw [if_neg h]
      have h0 : t.val ≠ 0 := by omega
      have hd := ((rdat m c).finds_of_pos (nofetch9 t) h0 Y).1 hY
      rcases hd with hd | hd
      · have := (flush0_9 _).1 hd
        have e : (⟨t.val - 1, Nat.lt_of_le_of_lt (Nat.sub_le _ _) t.isLt⟩ : Fin cfg0.N).val = t.val - 1 := rfl
        omega
      · have H := ih (t.val - 1) (by omega) _ rfl Y hd ρ n (by show ρ.val / 2 ≤ (t.val - 1) % 4; omega)
        rw [H]
        congr 1
        exact Fin.ext (by show 8 * ((t.val - 1) / 4) + ρ.val = 8 * (t.val / 4) + ρ.val; omega)

/-- What the body may have left in the regression block at a point. -/
theorem leaves10 (t : Fin cfg0.N) (X) (hX : (rdat m c).Leaves 10 t X) (bb s : Fin 2) (r : Fin 32) (q : Fin 768) :
    X (ix4 bb s r q)
      = regA (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) ⟨2 * t.val + bb.val, by have := lt8 t; omega⟩ s ⟨768 * r.val + q.val, by omega⟩ := by
  obtain ⟨Y, hY, hU⟩ := hX
  rw [after_10] at hU
  have hU' : X = upd10 m c t Y := hU
  rw [hU', upd10_apply]

/-- What the body may have left in the anchors at a point. -/
theorem leaves11 : ∀ (k : ℕ) (t : Fin cfg0.N), t.val = k → ∀ X, (rdat m c).Leaves 11 t X → ∀ (s : Fin 2) (r : Fin 32) (q : Fin 768),
    X (ix3 s r q) = anchA s ⟨768 * r.val + q.val, by omega⟩ := by
  intro k
  induction k with
  | zero =>
    intro t htk X hX s r q
    obtain ⟨Y, hY, hU⟩ := hX
    rw [after_11] at hU
    have hU' : X = upd11 m c t Y := hU
    rw [hU', upd11_first m c t htk]
  | succ k ih =>
    intro t htk X hX s r q
    obtain ⟨Y, hY, hU⟩ := hX
    rw [after_11] at hU
    have hU' : X = upd11 m c t Y := hU
    rw [hU', upd11_later m c t (by omega)]
    have hd := ((rdat m c).finds_of_pos (nofetch11 t) (by omega) Y).1 hY
    rcases hd with hd | hd
    · have := (flush0_11 _).1 hd
      have e : (⟨t.val - 1, Nat.lt_of_le_of_lt (Nat.sub_le _ _) t.isLt⟩ : Fin cfg0.N).val = t.val - 1 := rfl
      have := lt8 t
      omega
    · exact ih _ (by show t.val - 1 = k; omega) Y hd s r q

end Cert.KernelIdeal.Hand

end
-- ==== Proof.Arr.lean ====
/-
  Hand-written, untrusted. The three result arrays of the launch, whole.
-/
module

public import proofs.«01_k».proof.Proof.Leave
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.ShloMosaic.Pipeline

variable (m : (ℓ : Loc nD τ sig) → Buf (Elt Ideal) ℓ) (c : Dev nD)

/-- The result windows' block indices. -/
theorem idxOut (t : Fin cfg0.N) : win0_9.index t = ![t.val / 4, 0, 0] ∧ win0_10.index t = ![t.val, 0, 0, 0] ∧ win0_11.index t = ![0, 0, 0] :=
  (by decide +kernel : ∀ t : Fin grid0.N, win0_9.index t = ![t.val / 4, 0, 0] ∧ win0_10.index t = ![t.val, 0, 0, 0] ∧ win0_11.index t = ![0, 0, 0]) t

/-- The objectness array. -/
def G9 : S2x8x24576.Idx → EReal := fun i =>
  objA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) ⟨8 * (i 0).val + (i 1).val, by have h0 : (i 0).val < 2 := (i 0).isLt; have h1 : (i 1).val < 8 := (i 1).isLt; omega⟩ (i 2)

/-- The regression array. -/
def G10 : S16x2x32x768.Idx → EReal := fun i =>
  regA (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (i 0) (i 1) ⟨768 * (i 2).val + (i 3).val, by have h0 : (i 2).val < 32 := (i 2).isLt; have h1 : (i 3).val < 768 := (i 3).isLt; omega⟩

/-- The anchor array. -/
def G11 : S2x32x768.Idx → EReal := fun i =>
  anchA (i 0) ⟨768 * (i 1).val + (i 2).val, by have h0 : (i 1).val < 32 := (i 1).isLt; have h1 : (i 2).val < 768 := (i 2).isLt; omega⟩

/-- The array that window 9 leaves. -/
theorem arr9 (G) (hG : (rdat m c).ArrAt 9 cfg0.N G) : G = G9 m c := by
  obtain ⟨X, hX, hE⟩ := hG.exists_exact
  rw [hE (Function.update (fun _ _ _ => Classical.arbitrary _) 9 X) fun u _ _ => by rw [Function.update_self]]
  refine ((rdat m c).withAfter _).arrAt_eq_of_covers 9 _ (by decide +kernel) fun t hf y => ?_
  have hL := hX t t.isLt hf
  have hi := idxOut t
  have ht := lt8 t
  blk_simp [RDat.withAfter_after, Function.update_self]
  have h3 : t.val % 4 = 3 := (flush0_9 t).1 hf
  obtain ⟨a, ρ, n, rfl⟩ : ∃ (a : Fin 1) (ρ : Fin 8) (n : Fin 24576), y = ix3 a ρ n := ⟨y 0, y 1, y 2, eq_ix3 y⟩
  obtain rfl : a = 0 := Subsingleton.elim _ _
  have e : (win0_9.blk t).view.emb (ix3 0 ρ n) = ix3 (⟨t.val / 4, by omega⟩ : Fin 2) ρ n := by blk_ext [hi]
  rw [e]
  exact leaves9 m c t.val t rfl (X t) hL ρ n (by omega)

/-- The array that window 10 leaves. -/
theorem arr10 (G) (hG : (rdat m c).ArrAt 10 cfg0.N G) : G = G10 m c := by
  obtain ⟨X, hX, hE⟩ := hG.exists_exact
  rw [hE (Function.update (fun _ _ _ => Classical.arbitrary _) 10 X) fun u _ _ => by rw [Function.update_self]]
  refine ((rdat m c).withAfter _).arrAt_eq_of_covers 10 _ (by decide +kernel) fun t hf y => ?_
  have hL := hX t t.isLt hf
  have hi := idxOut t
  have ht := lt8 t
  blk_simp [RDat.withAfter_after, Function.update_self]
  obtain ⟨bb, s, r, q, rfl⟩ : ∃ (bb s : Fin 2) (r : Fin 32) (q : Fin 768), y = ix4 bb s r q := ⟨y 0, y 1, y 2, y 3, eq_ix4 y⟩
  have e : (win0_10.blk t).view.emb (ix4 bb s r q) = ix4 (⟨2 * t.val + bb.val, by omega⟩ : Fin 16) s r q := by blk_ext [hi]
  rw [e]
  exact leaves10 m c t (X t) hL bb s r q

/-- The array that window 11 leaves. -/
theorem arr11 (G) (hG : (rdat m c).ArrAt 11 cfg0.N G) : G = G11  := by
  obtain ⟨X, hX, hE⟩ := hG.exists_exact
  rw [hE (Function.update (fun _ _ _ => Classical.arbitrary _) 11 X) fun u _ _ => by rw [Function.update_self]]
  refine ((rdat m c).withAfter _).arrAt_eq_of_covers 11 _ (by decide +kernel) fun t hf y => ?_
  have hL := hX t t.isLt hf
  have hi := idxOut t
  have ht := lt8 t
  blk_simp [RDat.withAfter_after, Function.update_self]
  obtain ⟨s, r, q, rfl⟩ : ∃ (s : Fin 2) (r : Fin 32) (q : Fin 768), y = ix3 s r q := ⟨y 0, y 1, y 2, eq_ix3 y⟩
  have e : (win0_11.blk t).view.emb (ix3 s r q) = ix3 s r q := by blk_ext [hi]
  rw [e]
  exact leaves11 m c t.val t rfl (X t) hL s r q

end Cert.KernelIdeal.Hand

end
-- ==== Proof.Results.lean ====
/-
  Hand-written, untrusted. The kernel's three results at the end of its run, over the extended reals, at every index: the later host
  lines reshape and transpose the launch's arrays.
-/
module

public import proofs.«01_k».proof.Proof.Arr
public import proofs.«01_k».proof.Proof.Frame
public import Idealize.ShloMosaic.Lib.Pointwise
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.SL.Sem

section Tail
variable (U : Valuation τ sig (Elt Ideal))

/-- The first result after the later lines. -/
theorem tail0 (n : Fin 16) (r : Fin 24576) :
    (StableHlo.after ([hostOps1].flatten : List (HloOp τ sig (Elt Ideal))) U (Proc.devRef .tc main_v0_0) : S16x24576.Idx → EReal) (ix2 n r)
      = (U (Proc.devRef .tc main_call0_v71_0) : S2x8x24576.Idx → EReal) (ix3 ⟨n.val / 8, by omega⟩ ⟨n.val % 8, by omega⟩ r) := by
  simp only [List.flatten_cons, List.flatten_nil, List.append_nil]
  entry_read
  try simp only [StableHlo.TRef.ofBuf_toBuf]
  try simp only [StableHlo.TRef.toBuf, StableHlo.TRef.ofBuf, StableHlo.TRef.of, cast_eq]
  pointwise

/-- The second result after the later lines. -/
theorem tail1 (n : Fin 16) (r : Fin 24576) (s : Fin 2) :
    (StableHlo.after ([hostOps1].flatten : List (HloOp τ sig (Elt Ideal))) U (Proc.devRef .tc main_v0_1) : S16x24576x2.Idx → EReal) (ix3 n r s)
      = (U (Proc.devRef .tc main_call0_v71_1) : S16x2x32x768.Idx → EReal) (ix4 n s ⟨r.val / 768, by omega⟩ ⟨r.val % 768, by omega⟩) := by
  simp only [List.flatten_cons, List.flatten_nil, List.append_nil]
  entry_read
  try simp only [StableHlo.TRef.ofBuf_toBuf]
  try simp only [StableHlo.TRef.toBuf, StableHlo.TRef.ofBuf, StableHlo.TRef.of, cast_eq]
  pointwise

/-- The third result after the later lines. -/
theorem tail2 (r : Fin 24576) (s : Fin 2) :
    (StableHlo.after ([hostOps1].flatten : List (HloOp τ sig (Elt Ideal))) U (Proc.devRef .tc main_v0_2) : S24576x2.Idx → EReal) (ix2 r s)
      = (U (Proc.devRef .tc main_call0_v71_2) : S2x32x768.Idx → EReal) (ix3 s ⟨r.val / 768, by omega⟩ ⟨r.val % 768, by omega⟩) := by
  simp only [List.flatten_cons, List.flatten_nil, List.append_nil]
  entry_read
  try simp only [StableHlo.TRef.ofBuf_toBuf]
  try simp only [StableHlo.TRef.toBuf, StableHlo.TRef.ofBuf, StableHlo.TRef.of, cast_eq]
  pointwise

end Tail

variable (m : (ℓ : Loc nD τ sig) → Buf (Elt Ideal) ℓ)

/-- No two windows stage the same array. -/
theorem arrRef_inj : Function.Injective (Pipeline.arrRef spec0) := by
  exact (by decide : Function.Injective (Pipeline.arrRef spec0))

/-- The three results of a run, at every index. -/
theorem results {s : MemSt nD τ sig (Elt Ideal)}
    (h : Cert.LaunchTail.Post (cfg := cfg0) Pipeline.Prefetch.none (rdat m) (V0 m) [hostOps1].flatten s) (c : Dev nD) :
    (∀ (n : Fin 16) (r : Fin 24576), (s.mem ((c.tc : Thread nD τ).loc main_v0_0) : S16x24576.Idx → EReal) (ix2 n r)
        = objA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) n r)
    ∧ (∀ (n : Fin 16) (r : Fin 24576) (e : Fin 2), (s.mem ((c.tc : Thread nD τ).loc main_v0_1) : S16x24576x2.Idx → EReal) (ix3 n r e)
        = regA (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) n e r)
    ∧ (∀ (r : Fin 24576) (e : Fin 2), (s.mem ((c.tc : Thread nD τ).loc main_v0_2) : S24576x2.Idx → EReal) (ix2 r e) = anchA e r) := by
  obtain ⟨-, A, hA, hrest⟩ := h.1 c
  have hr : ∀ b : Ref sig .tc, b ∈ Pipeline.restRefs sig spec0 → b ∈ Pipeline.restRefsP sig Pipeline.Prefetch.none spec0 := fun b hb =>
    Finset.mem_sdiff.mpr ⟨hb, fun hi => by obtain ⟨k, -, -⟩ := Finset.mem_image.mp hi; exact k.elim0⟩
  refine ⟨fun n r => ?_, fun n r e => ?_, fun r e => ?_⟩
  · rw [hrest main_v0_0 (hr _ (Pipeline.mem_restRefs_of main_v0_0 (by decide) (by decide))), tail0]
    have e := (Pipeline.withArrays_arr spec0 arrRef_inj c (V0 m c) A 9).trans (arr9 m c _ (hA 9))
    refine (congrFun e _).trans ?_
    unfold G9
    congr 1
    exact Fin.ext (by show 8 * (n.val / 8) + n.val % 8 = n.val; omega)
  · rw [hrest main_v0_1 (hr _ (Pipeline.mem_restRefs_of main_v0_1 (by decide) (by decide))), tail1]
    have e := (Pipeline.withArrays_arr spec0 arrRef_inj c (V0 m c) A 10).trans (arr10 m c _ (hA 10))
    refine (congrFun e _).trans ?_
    unfold G10
    congr 1
    exact Fin.ext (by show 768 * (r.val / 768) + r.val % 768 = r.val; omega)
  · rw [hrest main_v0_2 (hr _ (Pipeline.mem_restRefs_of main_v0_2 (by decide) (by decide))), tail2]
    have e := (Pipeline.withArrays_arr spec0 arrRef_inj c (V0 m c) A 11).trans (arr11 m c _ (hA 11))
    refine (congrFun e _).trans ?_
    unfold G11
    congr 1
    exact Fin.ext (by show 768 * (r.val / 768) + r.val % 768 = r.val; omega)

end Cert.KernelIdeal.Hand

end
-- ==== Proof.RefVal.lean ====
/-
  Hand-written, untrusted. What the reference's composed terms hold at an index, over the extended reals: the hidden layer as the same
  three-tap sum as the kernel's, the two heads, and the anchors.
-/
module

public import proofs.«01_k».proof.Proof.Gen.ReferenceIdeal.Run
public import proofs.«01_k».proof.Proof.Pay

@[expose] public section

set_option maxRecDepth 16384

noncomputable section

namespace Cert.ReferenceIdeal.Hand

open Cert.ReferenceIdeal Cert.ReferenceIdeal.Gen
open Cert.KernelIdeal.Hand (hidV headV)
open Idealize.ShloMosaic Idealize.ShloMosaic.TcCoe Idealize.ShloMosaic.Tactic Idealize.SL.Sem

/-- The features between two columns of zeros. -/
def padT (x : FVec Ideal S16x128x4096 .f32) : FVec Ideal S16x128x4098 .f32 :=
  concatenate S16x128x4098 2 [⟨S16x128x1, broadcastInDim S16x128x1 ![] bcast_S_S16x128x1 (constant S_ .f32 0x00000000#32)⟩, ⟨S16x128x4096, x⟩,
    ⟨S16x128x1, broadcastInDim S16x128x1 ![] bcast_S_S16x128x1 (constant S_ .f32 0x00000000#32)⟩] concatenates_S16x128x1_S16x128x4096_S16x128x1_S16x128x4098_d2

/-- Tap 0 of the convolution. -/
def tap0 (x : FVec Ideal S16x128x4096 .f32) (w : FVec Ideal S128x128x3 .f32) : FVec Ideal S16x128x4096 .f32 :=
  (transpose S16x128x4096 [0, 2, 1] (Host.dotGeneral dot_S16x128x4096_S128x128_S16x4096x128_1_1_02_0_n_n none
    (extractStridedSlice S16x128x4096 ![0, 0, 0] (padT x) slices_S16x128x4098_S16x128x4096_0_0_0)
    (shapeCast _ (extractStridedSlice S128x128x1 ![0, 0, 0] w slices_S128x128x3_S128x128x1_0_0_0) shapeCasts_S128x128x1_S128x128)) transposes_S16x4096x128_S16x128x4096_0_2_1)

/-- Tap 1 of the convolution. -/
def tap1 (x : FVec Ideal S16x128x4096 .f32) (w : FVec Ideal S128x128x3 .f32) : FVec Ideal S16x128x4096 .f32 :=
  (transpose S16x128x4096 [0, 2, 1] (Host.dotGeneral dot_S16x128x4096_S128x128_S16x4096x128_1_1_02_0_n_n none
    (extractStridedSlice S16x128x4096 ![0, 0, 1] (padT x) slices_S16x128x4098_S16x128x4096_0_0_1)
    (shapeCast _ (extractStridedSlice S128x128x1 ![0, 0, 1] w slices_S128x128x3_S128x128x1_0_0_1) shapeCasts_S128x128x1_S128x128)) transposes_S16x4096x128_S16x128x4096_0_2_1)

/-- Tap 2 of the convolution. -/
def tap2 (x : FVec Ideal S16x128x4096 .f32) (w : FVec Ideal S128x128x3 .f32) : FVec Ideal S16x128x4096 .f32 :=
  (transpose S16x128x4096 [0, 2, 1] (Host.dotGeneral dot_S16x128x4096_S128x128_S16x4096x128_1_1_02_0_n_n none
    (extractStridedSlice S16x128x4096 ![0, 0, 2] (padT x) slices_S16x128x4098_S16x128x4096_0_0_2)
    (shapeCast _ (extractStridedSlice S128x128x1 ![0, 0, 2] w slices_S128x128x3_S128x128x1_0_0_2) shapeCasts_S128x128x1_S128x128)) transposes_S16x4096x128_S16x128x4096_0_2_1)

/-- The reference's hidden layer. -/
def hidT (x : FVec Ideal S16x128x4096 .f32) (w : FVec Ideal S128x128x3 .f32) (b : FVec Ideal S128 .f32) : FVec Ideal S16x128x4096 .f32 :=
  maximumf (addf (addf (addf (addf (broadcastInDim S16x128x4096 ![] bcast_S_S16x128x4096 (constant S_ .f32 0x00000000#32)) (tap0 x w)) (tap1 x w)) (tap2 x w))
    (broadcastInDim S16x128x4096 ![0, 1, 2] bcast_S1x128x1_S16x128x4096_0_1_2 (broadcastInDim S1x128x1 ![1] bcast_S128_S1x128x1_1 b)))
    (broadcastInDim S16x128x4096 ![] bcast_S_S16x128x4096 (constant S_ .f32 0x00000000#32))

/-- The reference's objectness. -/
def objT (h : FVec Ideal S16x128x4096 .f32) (w : FVec Ideal S6x128x1 .f32) (b : FVec Ideal S6 .f32) : FVec Ideal S16x24576 .f32 :=
  shapeCast _ (addf (Host.dotGeneral dot_S16x128x4096_S6x128_S16x4096x6_1_1_02_0_n_n none h (shapeCast _ w shapeCasts_S6x128x1_S6x128))
    (broadcastInDim S16x4096x6 ![0, 1, 2] bcast_S1x1x6_S16x4096x6_0_1_2 (broadcastInDim S1x1x6 ![2] bcast_S6_S1x1x6_2 b))) shapeCasts_S16x4096x6_S16x24576

/-- The reference's regression. -/
def regT (h : FVec Ideal S16x128x4096 .f32) (w : FVec Ideal S12x128x1 .f32) (b : FVec Ideal S12 .f32) : FVec Ideal S16x24576x2 .f32 :=
  shapeCast _ (shapeCast _ (addf (Host.dotGeneral dot_S16x128x4096_S12x128_S16x4096x12_1_1_02_0_n_n none h (shapeCast _ w shapeCasts_S12x128x1_S12x128))
    (broadcastInDim S16x4096x12 ![0, 1, 2] bcast_S1x1x12_S16x4096x12_0_1_2 (broadcastInDim S1x1x12 ![2] bcast_S12_S1x1x12_2 b))) shapeCasts_S16x4096x12_S16x4096x6x2)
    shapeCasts_S16x4096x6x2_S16x24576x2

/-- The anchors' centres. -/
def cenT : FVec Ideal S4096x6 .f32 :=
  broadcastInDim S4096x6 ![0, 1] bcast_S4096x1_S4096x6_0_1 (broadcastInDim S4096x1 ![0] bcast_S4096_S4096x1_0
    (addf (sitofp .f32 (iotaInDim S4096 32 0)) (broadcastInDim S4096 ![] bcast_S_S4096 (constant S_ .f32 0x3F000000#32))))

/-- The anchors' half lengths. -/
def halfT : FVec Ideal S4096x6 .f32 :=
  mulf (broadcastInDim S4096x6 ![] bcast_S_S4096x6 (constant S_ .f32 0x3F000000#32)) (broadcastInDim S4096x6 ![0, 1] bcast_S1x6_S4096x6_0_1
    (broadcastInDim S1x6 ![1] bcast_S6_S1x6_1 ((fun i => FloatOps.ofBits .f32 (lit0 (S6.rowMajor i))))))

/-- The reference's anchors. -/
def anchT : FVec Ideal S24576x2 .f32 :=
  shapeCast _ (concatenate S4096x6x2 2 [⟨S4096x6x1, broadcastInDim S4096x6x1 ![0, 1] bcast_S4096x6_S4096x6x1_0_1 (subf cenT halfT)⟩,
    ⟨S4096x6x1, broadcastInDim S4096x6x1 ![0, 1] bcast_S4096x6_S4096x6x1_0_1 (addf cenT halfT)⟩] concatenates_S4096x6x1_S4096x6x1_S4096x6x2_d2)
    shapeCasts_S4096x6x2_S24576x2

/-- The reference's run, its results by the names above. -/
theorem run_named (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = objT (hidT (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_v55) = regT (hidT (m ((c.tc : Thread nD τ).loc main_arg0)) (m ((c.tc : Thread nD τ).loc main_arg1)) (m ((c.tc : Thread nD τ).loc main_arg2))) (m ((c.tc : Thread nD τ).loc main_arg5)) (m ((c.tc : Thread nD τ).loc main_arg6))
      ∧ r.2.mem ((c.tc : Thread nD τ).loc main_v52) = anchT
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.ReferenceIdeal.Value.run (F := Ideal) m ρ

/-! ## The terms at an index -/

theorem tap0_apply (x : FVec Ideal S16x128x4096 .f32) (w : FVec Ideal S128x128x3 .f32) (b : Fin 16) (o : Fin 128) (l : Fin 4096) :
    tap0 x w (ix3 b o l) = ∑ p : Fin 128, w (ix3 o p 0) * (if h : 0 < l.val then x (ix3 b p ⟨l.val - 1, by omega⟩) else 0) := by
  unfold tap0 padT
  pointwise
  refine Finset.sum_congr rfl fun p _ => ?_
  rw [mul_comm]
  refine congrArg _ ?_
  by_cases h : 0 < l.val
  · rw [dif_neg (by omega), dif_pos (by omega), dif_pos h]
  · rw [dif_pos (by omega), dif_neg h]

theorem tap1_apply (x : FVec Ideal S16x128x4096 .f32) (w : FVec Ideal S128x128x3 .f32) (b : Fin 16) (o : Fin 128) (l : Fin 4096) :
    tap1 x w (ix3 b o l) = ∑ p : Fin 128, w (ix3 o p 1) * x (ix3 b p l) := by
  unfold tap1 padT
  pointwise
  refine Finset.sum_congr rfl fun p _ => ?_
  rw [mul_comm]

theorem tap2_apply (x : FVec Ideal S16x128x4096 .f32) (w : FVec Ideal S128x128x3 .f32) (b : Fin 16) (o : Fin 128) (l : Fin 4096) :
    tap2 x w (ix3 b o l) = ∑ p : Fin 128, w (ix3 o p 2) * (if h : l.val + 1 < 4096 then x (ix3 b p ⟨l.val + 1, h⟩) else 0) := by
  unfold tap2 padT
  pointwise
  refine Finset.sum_congr rfl fun p _ => ?_
  rw [mul_comm]
  refine congrArg _ ?_
  have e : 2 + l.val - 1 = l.val + 1 := by omega
  rw [dif_neg (by omega)]
  simp only [e]

theorem tap_lo (p : Fin 128) : (⟨p.val % 128, by omega⟩ : Fin 128) = p ∧ (⟨p.val / 128, by omega⟩ : Fin 3) = 0 :=
  ⟨Fin.ext (Nat.mod_eq_of_lt p.isLt), Fin.ext (Nat.div_eq_of_lt p.isLt)⟩
theorem tap_mid (p : Fin 128) : (⟨(128 + p.val) % 128, by omega⟩ : Fin 128) = p ∧ (⟨(128 + p.val) / 128, by omega⟩ : Fin 3) = 1 :=
  ⟨Fin.ext (by simp only; omega), Fin.ext (by show (128 + p.val) / 128 = 1; omega)⟩
theorem tap_hi (p : Fin 128) : (⟨(256 + p.val) % 128, by omega⟩ : Fin 128) = p ∧ (⟨(256 + p.val) / 128, by omega⟩ : Fin 3) = 2 :=
  ⟨Fin.ext (by simp only; omega), Fin.ext (by show (256 + p.val) / 128 = 2; omega)⟩

theorem hidT_apply (x : FVec Ideal S16x128x4096 .f32) (w : FVec Ideal S128x128x3 .f32) (b : FVec Ideal S128 .f32) (n : Fin 16) (o : Fin 128) (l : Fin 4096) :
    hidT x w b (ix3 n o l)
      = hidV (fun p l => x (ix3 n p l)) (fun o k => w (ix3 o ⟨k.val % 128, by omega⟩ ⟨k.val / 128, by omega⟩)) (fun o => b (ix1 o)) o l := by
  unfold hidT
  pointwise
  rw [tap0_apply, tap1_apply, tap2_apply]
  unfold hidV
  simp only [(tap_lo _).1, (tap_lo _).2, (tap_mid _).1, (tap_mid _).2, (tap_hi _).1, (tap_hi _).2, ← add_assoc]

theorem objT_apply (h : FVec Ideal S16x128x4096 .f32) (w : FVec Ideal S6x128x1 .f32) (b : FVec Ideal S6 .f32) (n : Fin 16) (r : Fin 24576) :
    objT h w b (ix2 n r) = headV (fun o l => h (ix3 n o l)) (fun ch o => w (ix3 ch o 0)) (fun ch => b (ix1 ch)) ⟨r.val % 6, by omega⟩ ⟨r.val / 6, by omega⟩ := by
  unfold objT
  pointwise [headV]
  congr 1
  exact Finset.sum_congr rfl fun o _ => mul_comm _ _

theorem regT_apply (h : FVec Ideal S16x128x4096 .f32) (w : FVec Ideal S12x128x1 .f32) (b : FVec Ideal S12 .f32) (n : Fin 16) (r : Fin 24576) (s : Fin 2) :
    regT h w b (ix3 n r s)
      = headV (fun o l => h (ix3 n o l)) (fun ch o => w (ix3 ch o 0)) (fun ch => b (ix1 ch)) ⟨2 * (r.val % 6) + s.val, by omega⟩ ⟨r.val / 6, by omega⟩ := by
  unfold regT
  pointwise [headV]
  have e : r.val % 6 * 2 = 2 * (r.val % 6) := Nat.mul_comm _ _
  simp only [e]
  congr 1
  exact Finset.sum_congr rfl fun o _ => mul_comm _ _

/-- The sign of a start or an end times one half, as the two programs' literals give it. -/
theorem half_neg : Ideal.ofBits .f32 0xBF000000#32 = -Ideal.ofBits .f32 0x3F000000#32 := by
  simp [Ideal.ofBits, Ideal.ieee, -EReal.coe_mul, -EReal.coe_neg]
  norm_num

theorem lens_same (k : S6.Idx) : lit0 (S6.rowMajor k) = Cert.KernelIdeal.lit0 (Cert.KernelIdeal.S6.rowMajor k) := rfl

theorem sign0 (s : Fin 2) (h : s.val < 1) : Cert.KernelIdeal.lit1 (Cert.KernelIdeal.S2.rowMajor (ix1 s)) = 0xBF000000#32 := by
  obtain rfl : s = 0 := Fin.ext (by show s.val = 0; omega)
  rfl

theorem sign1 (s : Fin 2) (h : ¬ s.val < 1) : Cert.KernelIdeal.lit1 (Cert.KernelIdeal.S2.rowMajor (ix1 s)) = 0x3F000000#32 := by
  obtain rfl : s = 1 := Fin.ext (by show s.val = 1; omega)
  rfl

theorem start_eq (s : Fin 2) (h : s.val < 1) (a l : EReal) : a - Ideal.ofBits .f32 0x3F000000#32 * l
    = a + Ideal.ofBits .f32 (Cert.KernelIdeal.lit1 (Cert.KernelIdeal.S2.rowMajor (ix1 s))) * l := by
  rw [sign0 s h, half_neg, EReal.neg_mul]
  exact sub_eq_add_neg _ _

theorem end_eq (s : Fin 2) (h : ¬ s.val < 1) (a l : EReal) : a + Ideal.ofBits .f32 0x3F000000#32 * l
    = a + Ideal.ofBits .f32 (Cert.KernelIdeal.lit1 (Cert.KernelIdeal.S2.rowMajor (ix1 s))) * l :=
  congrArg (fun w : BitVec 32 => a + Ideal.ofBits .f32 w * l) (sign1 s h).symm

/-- An anchor's start or end: the centre plus the signed half length, in the kernel's literals. -/
theorem anchT_apply (r : Fin 24576) (s : Fin 2) :
    anchT (ix2 r s) = (FloatOps.sitofp (F := Ideal) .f32 (BitVec.ofNat 32 (r.val / 6)) + Ideal.ofBits .f32 0x3F000000#32)
      + Ideal.ofBits .f32 (Cert.KernelIdeal.lit1 (Cert.KernelIdeal.S2.rowMajor (ix1 s)))
        * Ideal.ofBits .f32 (Cert.KernelIdeal.lit0 (Cert.KernelIdeal.S6.rowMajor (ix1 ⟨r.val % 6, by omega⟩))) := by
  unfold anchT cenT halfT
  pointwise
  by_cases h : s.val < 1
  · rw [dif_pos h, ← lens_same]
    exact start_eq s h _ _
  · rw [dif_neg h, ← lens_same]
    exact end_eq s h _ _

end Cert.ReferenceIdeal.Hand

end
-- ==== Proof.lean ====
/-
  The proof of `Cert.Claim`, assembled: the frames of the two readings of the kernel are their runs (`run_main`) read at the arguments
  (`args_kept`); the reference's frame is its generated run; the idealization changes
  nothing; and over the extended reals the kernel's results (`results`) are the reference's (`objT_apply`, `regT_apply`, `anchT_apply`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Bits.Frame
public import proofs.«01_k».proof.Proof.Results
public import proofs.«01_k».proof.Proof.RefVal
public import Idealize.ShloMosaic.Adequacy
public import Idealize.ShloMosaic.Init

@[expose] public section

noncomputable section

namespace Cert.Proof

open Idealize.ShloMosaic Idealize.SL.Sem

/-- The kernel's own frame: at bit patterns its run ends, every semaphore reads zero and the arguments are as launched. -/
theorem frame_kernel : Cert.quiescent_Kernel (hKernel := Cert.Kernel.Gen.facts) := fun m g _ =>
  (θ_run Cert.Kernel.defs _ _).mono (fun _ h => ⟨fun c => Cert.Kernel.Hand.args_kept h c, h.2⟩) (Cert.Kernel.Hand.run_main (F := Bits) m g)

/-- The same of the idealized kernel. -/
theorem frame_ideal : Cert.quiescent_KernelIdeal (hKernelIdeal := Cert.KernelIdeal.Gen.facts) := fun m g _ =>
  (θ_run Cert.KernelIdeal.defs _ _).mono (fun _ h => ⟨fun c => Cert.KernelIdeal.Hand.args_kept h c, h.2⟩)
    (Cert.KernelIdeal.Hand.run_main (F := Ideal) m g)

/-- The same of the reference, which has no semaphore. -/
theorem frame_reference : Cert.quiescent_ReferenceIdeal (hReferenceIdeal := Cert.ReferenceIdeal.Gen.facts) := fun m g _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m g)

/-- The reference's objectness is the kernel's, at every index. -/
theorem obj_eq (x : Cert.KernelIdeal.S16x128x4096.Idx → EReal) (w : Cert.KernelIdeal.S128x128x3.Idx → EReal) (b : Cert.KernelIdeal.S128.Idx → EReal)
    (ow : Cert.KernelIdeal.S6x128x1.Idx → EReal) (ob : Cert.KernelIdeal.S6.Idx → EReal) (n : Fin 16) (r : Fin 24576) :
    Cert.ReferenceIdeal.Hand.objT (Cert.ReferenceIdeal.Hand.hidT x w b) ow ob (ix2 n r) = Cert.KernelIdeal.Hand.objA x w b ow ob n r := by
  rw [Cert.ReferenceIdeal.Hand.objT_apply]
  unfold Cert.KernelIdeal.Hand.objA Cert.KernelIdeal.Hand.hidA
  simp only [Cert.ReferenceIdeal.Hand.hidT_apply]

/-- The reference's regression is the kernel's, at every index. -/
theorem reg_eq (x : Cert.KernelIdeal.S16x128x4096.Idx → EReal) (w : Cert.KernelIdeal.S128x128x3.Idx → EReal) (b : Cert.KernelIdeal.S128.Idx → EReal)
    (vw : Cert.KernelIdeal.S12x128x1.Idx → EReal) (vb : Cert.KernelIdeal.S12.Idx → EReal) (n : Fin 16) (r : Fin 24576) (s : Fin 2) :
    Cert.ReferenceIdeal.Hand.regT (Cert.ReferenceIdeal.Hand.hidT x w b) vw vb (ix3 n r s) = Cert.KernelIdeal.Hand.regA x w b vw vb n s r := by
  rw [Cert.ReferenceIdeal.Hand.regT_apply]
  unfold Cert.KernelIdeal.Hand.regA Cert.KernelIdeal.Hand.hidA
  simp only [Cert.ReferenceIdeal.Hand.hidT_apply]

/-- Over the extended reals the kernel's three results are the reference's, on every core, and both keep their arguments. -/
theorem algebraic : Cert.algebraic_KernelIdeal_ReferenceIdeal (hKernelIdeal := Cert.KernelIdeal.Gen.facts)
    (hReferenceIdeal := Cert.ReferenceIdeal.Gen.facts) := by
  intro m g m' g' _ hagree
  refine ⟨fun c => Cert.ReferenceIdeal.Hand.objT (Cert.ReferenceIdeal.Hand.hidT
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4)),
    fun c => Cert.ReferenceIdeal.Hand.regT (Cert.ReferenceIdeal.Hand.hidT
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6)),
    fun c => Cert.ReferenceIdeal.Hand.anchT, ?_, Cert.ReferenceIdeal.Hand.run_named m' g'⟩
  refine (θ_run Cert.KernelIdeal.defs _ _).mono (fun r h c => ?_) (Cert.KernelIdeal.Hand.run_main (F := Ideal) m g)
  obtain ⟨h0, h1, h2⟩ := Cert.KernelIdeal.Hand.results m h c
  obtain ⟨a0, a1, a2, a3, a4, a5, a6⟩ := hagree c
  refine ⟨?_, ?_, ?_, Cert.KernelIdeal.Hand.args_kept h c⟩
  · funext i
    obtain ⟨n, r', rfl⟩ : ∃ (n : Fin 16) (r' : Fin 24576), i = ix2 n r' := ⟨i 0, i 1, eq_ix2 i⟩
    dsimp only
    rw [a0, a1, a2, a3, a4]
    exact (h0 n r').trans (obj_eq _ _ _ _ _ n r').symm
  · funext i
    obtain ⟨n, r', s, rfl⟩ : ∃ (n : Fin 16) (r' : Fin 24576) (s : Fin 2), i = ix3 n r' s := ⟨i 0, i 1, i 2, eq_ix3 i⟩
    dsimp only
    rw [a0, a1, a2, a5, a6]
    exact (h1 n r' s).trans (reg_eq _ _ _ _ _ n r' s).symm
  · funext i
    obtain ⟨r', s, rfl⟩ : ∃ (r' : Fin 24576) (s : Fin 2), i = ix2 r' s := ⟨i 0, i 1, eq_ix2 i⟩
    exact (h2 r' s).trans (Cert.ReferenceIdeal.Hand.anchT_apply r' s).symm

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
